-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_scales_normal [hPre_down_scales_normal : Cert.Pre_down_scales_normal.Facts] (m : (ℓ : Loc Cert.DownIdeal.nD Cert.DownIdeal.τ Cert.DownIdeal.sig) → Buf (Elt Ideal) ℓ) : Prop :=
  ∀ c : Dev Cert.DownIdeal.nD,
    (Cert.Pre_down_scales_normal.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_scales_normal [hPre_down_scales_normal : Cert.Pre_down_scales_normal.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_scales_normal.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuIdeal_gu_scales_normal [hPre_gu_scales_normal : Cert.Pre_gu_scales_normal.Facts] (m : (ℓ : Loc Cert.GuIdeal.nD Cert.GuIdeal.τ Cert.GuIdeal.sig) → Buf (Elt Ideal) ℓ) : Prop :=
  ∀ c : Dev Cert.GuIdeal.nD,
    (Cert.Pre_gu_scales_normal.fn (F := Ideal) (m ((c.tc : Thread Cert.GuIdeal.nD Cert.GuIdeal.τ).loc Cert.GuIdeal.main_arg0)) (m ((c.tc : Thread Cert.GuIdeal.nD Cert.GuIdeal.τ).loc Cert.GuIdeal.main_arg1)) (m ((c.tc : Thread Cert.GuIdeal.nD Cert.GuIdeal.τ).loc Cert.GuIdeal.main_arg2))) = (fun _ => 1#1)

def Pre_GuRefIdeal (m : (ℓ : Loc Cert.GuRefIdeal.nD Cert.GuRefIdeal.τ Cert.GuRefIdeal.sig) → Buf (Elt Ideal) ℓ) : Prop :=
  True

def Pre_GuRefIdeal_gu_scales_normal [hPre_gu_scales_normal : Cert.Pre_gu_scales_normal.Facts] (m : (ℓ : Loc Cert.GuRefIdeal.nD Cert.GuRefIdeal.τ Cert.GuRefIdeal.sig) → Buf (Elt Ideal) ℓ) : Prop :=
  ∀ c : Dev Cert.GuRefIdeal.nD,
    (Cert.Pre_gu_scales_normal.fn (F := Ideal) (m ((c.tc : Thread Cert.GuRefIdeal.nD Cert.GuRefIdeal.τ).loc Cert.GuRefIdeal.main_arg0)) (m ((c.tc : Thread Cert.GuRefIdeal.nD Cert.GuRefIdeal.τ).loc Cert.GuRefIdeal.main_arg1)) (m ((c.tc : Thread Cert.GuRefIdeal.nD Cert.GuRefIdeal.τ).loc Cert.GuRefIdeal.main_arg2))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_oproj_scales_normal [hPre_oproj_scales_normal : Cert.Pre_oproj_scales_normal.Facts] (m : (ℓ : Loc Cert.OprojIdeal.nD Cert.OprojIdeal.τ Cert.OprojIdeal.sig) → Buf (Elt Ideal) ℓ) : Prop :=
  ∀ c : Dev Cert.OprojIdeal.nD,
    (Cert.Pre_oproj_scales_normal.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4))) = (fun _ => 1#1)

def Pre_OprojRefIdeal (m : (ℓ : Loc Cert.OprojRefIdeal.nD Cert.OprojRefIdeal.τ Cert.OprojRefIdeal.sig) → Buf (Elt Ideal) ℓ) : Prop :=
  True

def Pre_OprojRefIdeal_oproj_scales_normal [hPre_oproj_scales_normal : Cert.Pre_oproj_scales_normal.Facts] (m : (ℓ : Loc Cert.OprojRefIdeal.nD Cert.OprojRefIdeal.τ Cert.OprojRefIdeal.sig) → Buf (Elt Ideal) ℓ) : Prop :=
  ∀ c : Dev Cert.OprojRefIdeal.nD,
    (Cert.Pre_oproj_scales_normal.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4))) = (fun _ => 1#1)

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_down_scales_normal [hDownIdeal : Cert.DownIdeal.Facts] [hPre_down_scales_normal : Cert.Pre_down_scales_normal.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_scales_normal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_down_scales_normal [hDownRefIdeal : Cert.DownRefIdeal.Facts] [hPre_down_scales_normal : Cert.Pre_down_scales_normal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_scales_normal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ r.2.sem = fun _ => 0)

def quiescent_GuIdeal_pre_gu_scales_normal [hGuIdeal : Cert.GuIdeal.Facts] [hPre_gu_scales_normal : Cert.Pre_gu_scales_normal.Facts] : Prop :=
  ∀ (m : (ℓ : Loc Cert.GuIdeal.nD Cert.GuIdeal.τ Cert.GuIdeal.sig) → Buf (Elt Ideal) ℓ) (g : Dev Cert.GuIdeal.nD → PrngReg), Pre_GuIdeal_gu_scales_normal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2))
      ∧ r.2.sem = fun _ => 0)

def quiescent_GuRefIdeal_pre_gu_scales_normal [hGuRefIdeal : Cert.GuRefIdeal.Facts] [hPre_gu_scales_normal : Cert.Pre_gu_scales_normal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal_gu_scales_normal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojIdeal_pre_oproj_scales_normal [hOprojIdeal : Cert.OprojIdeal.Facts] [hPre_oproj_scales_normal : Cert.Pre_oproj_scales_normal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_oproj_scales_normal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def quiescent_OprojRefIdeal_pre_oproj_scales_normal [hOprojRefIdeal : Cert.OprojRefIdeal.Facts] [hPre_oproj_scales_normal : Cert.Pre_oproj_scales_normal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal_oproj_scales_normal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def preserves_Down_DownIdeal : Prop :=
  True

def algebraic_DownIdeal_DownRefIdeal_pre_down_scales_normal [hDownIdeal : Cert.DownIdeal.Facts] [hDownRefIdeal : Cert.DownRefIdeal.Facts] [hPre_down_scales_normal : Cert.Pre_down_scales_normal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_scales_normal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Gu_GuIdeal : Prop :=
  True

def algebraic_GuIdeal_GuRefIdeal_pre_gu_scales_normal [hGuIdeal : Cert.GuIdeal.Facts] [hGuRefIdeal : Cert.GuRefIdeal.Facts] [hPre_gu_scales_normal : Cert.Pre_gu_scales_normal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal_gu_scales_normal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)) →
    ∃ (v0 : (c : Dev Cert.GuIdeal.nD) → Buf (Elt Ideal) ((c.tc : Thread Cert.GuIdeal.nD Cert.GuIdeal.τ).loc Cert.GuIdeal.main_v0_0)) (v1 : (c : Dev Cert.GuIdeal.nD) → Buf (Elt Ideal) ((c.tc : Thread Cert.GuIdeal.nD Cert.GuIdeal.τ).loc Cert.GuIdeal.main_v0_1)) (v2 : (c : Dev Cert.GuIdeal.nD) → Buf (Elt Ideal) ((c.tc : Thread Cert.GuIdeal.nD Cert.GuIdeal.τ).loc Cert.GuIdeal.main_v0_2)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0_0) = v0 c
          ∧ r.2.mem ((c.tc : Thread Cert.GuIdeal.nD Cert.GuIdeal.τ).loc Cert.GuIdeal.main_v0_1) = v1 c
          ∧ r.2.mem ((c.tc : Thread Cert.GuIdeal.nD Cert.GuIdeal.τ).loc Cert.GuIdeal.main_v0_2) = v2 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v0_0) = v0 c
          ∧ r.2.mem ((c.tc : Thread Cert.GuRefIdeal.nD Cert.GuRefIdeal.τ).loc Cert.GuRefIdeal.main_v0_1) = v1 c
          ∧ r.2.mem ((c.tc : Thread Cert.GuRefIdeal.nD Cert.GuRefIdeal.τ).loc Cert.GuRefIdeal.main_v0_2) = v2 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2))

def preserves_Oproj_OprojIdeal : Prop :=
  True

def algebraic_OprojIdeal_OprojRefIdeal_pre_oproj_scales_normal [hOprojIdeal : Cert.OprojIdeal.Facts] [hOprojRefIdeal : Cert.OprojRefIdeal.Facts] [hPre_oproj_scales_normal : Cert.Pre_oproj_scales_normal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal_oproj_scales_normal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)) (v2 : (c : Dev Cert.OprojIdeal.nD) → Buf (Elt Ideal) ((c.tc : Thread Cert.OprojIdeal.nD Cert.OprojIdeal.τ).loc Cert.OprojIdeal.main_v1_2)) (v3 : (c : Dev Cert.OprojIdeal.nD) → Buf (Elt Ideal) ((c.tc : Thread Cert.OprojIdeal.nD Cert.OprojIdeal.τ).loc Cert.OprojIdeal.main_v1_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_v1_2) = v2 c
          ∧ r.2.mem ((c.tc : Thread Cert.OprojIdeal.nD Cert.OprojIdeal.τ).loc Cert.OprojIdeal.main_v1_3) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v1_0) = v0 c
          ∧ r.2.mem ((c.tc : Thread Cert.OprojRefIdeal.nD Cert.OprojRefIdeal.τ).loc Cert.OprojRefIdeal.main_v1_1) = v1 c
          ∧ r.2.mem ((c.tc : Thread Cert.OprojRefIdeal.nD Cert.OprojRefIdeal.τ).loc Cert.OprojRefIdeal.main_v1_2) = v2 c
          ∧ r.2.mem ((c.tc : Thread Cert.OprojRefIdeal.nD Cert.OprojRefIdeal.τ).loc Cert.OprojRefIdeal.main_v1_3) = v3 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v1_0)) (v1 : (c : Dev Cert.XqIdeal.nD) → Buf (Elt Ideal) ((c.tc : Thread Cert.XqIdeal.nD Cert.XqIdeal.τ).loc Cert.XqIdeal.main_v1_1)) (v2 : (c : Dev Cert.XqIdeal.nD) → Buf (Elt Ideal) ((c.tc : Thread Cert.XqIdeal.nD Cert.XqIdeal.τ).loc Cert.XqIdeal.main_v1_2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v1_0) = v0 c
          ∧ r.2.mem ((c.tc : Thread Cert.XqIdeal.nD Cert.XqIdeal.τ).loc Cert.XqIdeal.main_v1_1) = v1 c
          ∧ r.2.mem ((c.tc : Thread Cert.XqIdeal.nD Cert.XqIdeal.τ).loc Cert.XqIdeal.main_v1_2) = v2 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v1_0) = v0 c
          ∧ r.2.mem ((c.tc : Thread Cert.XqRefIdeal.nD Cert.XqRefIdeal.τ).loc Cert.XqRefIdeal.main_v1_1) = v1 c
          ∧ r.2.mem ((c.tc : Thread Cert.XqRefIdeal.nD Cert.XqRefIdeal.τ).loc Cert.XqRefIdeal.main_v1_2) = v2 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def Claim : Prop :=
  ∃ (hDown : Cert.Down.Facts) (hDownIdeal : Cert.DownIdeal.Facts) (hDownRefIdeal : Cert.DownRefIdeal.Facts) (hGu : Cert.Gu.Facts) (hGuIdeal : Cert.GuIdeal.Facts) (hGuRefIdeal : Cert.GuRefIdeal.Facts) (hOproj : Cert.Oproj.Facts) (hOprojIdeal : Cert.OprojIdeal.Facts) (hOprojRefIdeal : Cert.OprojRefIdeal.Facts) (hXq : Cert.Xq.Facts) (hXqIdeal : Cert.XqIdeal.Facts) (hXqRefIdeal : Cert.XqRefIdeal.Facts) (hPre_down_scales_normal : Cert.Pre_down_scales_normal.Facts) (hPre_gu_scales_normal : Cert.Pre_gu_scales_normal.Facts) (hPre_oproj_scales_normal : Cert.Pre_oproj_scales_normal.Facts),
    quiescent_Down (hDown := hDown)
    ∧ quiescent_DownIdeal (hDownIdeal := hDownIdeal)
    ∧ quiescent_DownIdeal_pre_down_scales_normal (hDownIdeal := hDownIdeal) (hPre_down_scales_normal := hPre_down_scales_normal)
    ∧ quiescent_DownRefIdeal (hDownRefIdeal := hDownRefIdeal)
    ∧ quiescent_DownRefIdeal_pre_down_scales_normal (hDownRefIdeal := hDownRefIdeal) (hPre_down_scales_normal := hPre_down_scales_normal)
    ∧ quiescent_Gu (hGu := hGu)
    ∧ quiescent_GuIdeal (hGuIdeal := hGuIdeal)
    ∧ quiescent_GuIdeal_pre_gu_scales_normal (hGuIdeal := hGuIdeal) (hPre_gu_scales_normal := hPre_gu_scales_normal)
    ∧ quiescent_GuRefIdeal (hGuRefIdeal := hGuRefIdeal)
    ∧ quiescent_GuRefIdeal_pre_gu_scales_normal (hGuRefIdeal := hGuRefIdeal) (hPre_gu_scales_normal := hPre_gu_scales_normal)
    ∧ quiescent_Oproj (hOproj := hOproj)
    ∧ quiescent_OprojIdeal (hOprojIdeal := hOprojIdeal)
    ∧ quiescent_OprojIdeal_pre_oproj_scales_normal (hOprojIdeal := hOprojIdeal) (hPre_oproj_scales_normal := hPre_oproj_scales_normal)
    ∧ quiescent_OprojRefIdeal (hOprojRefIdeal := hOprojRefIdeal)
    ∧ quiescent_OprojRefIdeal_pre_oproj_scales_normal (hOprojRefIdeal := hOprojRefIdeal) (hPre_oproj_scales_normal := hPre_oproj_scales_normal)
    ∧ quiescent_Xq (hXq := hXq)
    ∧ quiescent_XqIdeal (hXqIdeal := hXqIdeal)
    ∧ quiescent_XqRefIdeal (hXqRefIdeal := hXqRefIdeal)
    ∧ preserves_Down_DownIdeal
    ∧ algebraic_DownIdeal_DownRefIdeal_pre_down_scales_normal (hDownIdeal := hDownIdeal) (hDownRefIdeal := hDownRefIdeal) (hPre_down_scales_normal := hPre_down_scales_normal)
    ∧ preserves_Gu_GuIdeal
    ∧ algebraic_GuIdeal_GuRefIdeal_pre_gu_scales_normal (hGuIdeal := hGuIdeal) (hGuRefIdeal := hGuRefIdeal) (hPre_gu_scales_normal := hPre_gu_scales_normal)
    ∧ preserves_Oproj_OprojIdeal
    ∧ algebraic_OprojIdeal_OprojRefIdeal_pre_oproj_scales_normal (hOprojIdeal := hOprojIdeal) (hOprojRefIdeal := hOprojRefIdeal) (hPre_oproj_scales_normal := hPre_oproj_scales_normal)
    ∧ preserves_Xq_XqIdeal
    ∧ algebraic_XqIdeal_XqRefIdeal (hXqIdeal := hXqIdeal) (hXqRefIdeal := hXqRefIdeal)
-- ==== Pre_down_scales_normal.lean ====
abbrev S2048x9728 : Shape := ⟨2, ![2048, 9728]⟩
abbrev S2048x2560 : Shape := ⟨2, ![2048, 2560]⟩
abbrev S9728x2560 : Shape := ⟨2, ![9728, 2560]⟩
abbrev S304x2560 : Shape := ⟨2, ![304, 2560]⟩
abbrev S_ : Shape := ⟨0, ![]⟩

class Facts : Prop where
  natLt_8_32 : 8 < 32
  bcast_S_S304x2560 : S_.BroadcastsInDim S304x2560 (![] : Fin 0 → Fin S304x2560.rank)

variable [Facts]

def fn {F : FTy → Type} [FloatOps F] (main_arg0 : FVec F S2048x9728 .bf16) (main_arg1 : FVec F S2048x2560 .f32) (main_arg2 : FVec F S9728x2560 .fp8e4m3) (main_arg3 : IVec S304x2560 8) : IVec S304x2560 1 :=
  let main_v0 : IVec S304x2560 32 := (extui 32 · natLt_8_32) main_arg3
  let main_c : IVec S_ 32 := constantI S_ 32 1#32
  let main_v1 : IVec S304x2560 32 := broadcastInDim S304x2560 ![] bcast_S_S304x2560 main_c
  let main_v2 : IVec S304x2560 1 := cmpi .sge main_v0 main_v1
  let main_c_0 : IVec S_ 32 := constantI S_ 32 254#32
  let main_v3 : IVec S304x2560 32 := broadcastInDim S304x2560 ![] bcast_S_S304x2560 main_c_0
  let main_v4 : IVec S304x2560 1 := cmpi .sle main_v0 main_v3
  let main_v5 : IVec S304x2560 1 := andi main_v2 main_v4
  main_v5
-- ==== Pre_gu_scales_normal.lean ====
abbrev S2048x2560 : Shape := ⟨2, ![2048, 2560]⟩
abbrev S2560x19456 : Shape := ⟨2, ![2560, 19456]⟩
abbrev S80x19456 : Shape := ⟨2, ![80, 19456]⟩
abbrev S_ : Shape := ⟨0, ![]⟩

class Facts : Prop where
  natLt_8_32 : 8 < 32
  bcast_S_S80x19456 : S_.BroadcastsInDim S80x19456 (![] : Fin 0 → Fin S80x19456.rank)

variable [Facts]

def fn {F : FTy → Type} [FloatOps F] (main_arg0 : FVec F S2048x2560 .bf16) (main_arg1 : FVec F S2560x19456 .fp8e4m3) (main_arg2 : IVec S80x19456 8) : IVec S80x19456 1 :=
  let main_v0 : IVec S80x19456 32 := (extui 32 · natLt_8_32) main_arg2
  let main_c : IVec S_ 32 := constantI S_ 32 1#32
  let main_v1 : IVec S80x19456 32 := broadcastInDim S80x19456 ![] bcast_S_S80x19456 main_c
  let main_v2 : IVec S80x19456 1 := cmpi .sge main_v0 main_v1
  let main_c_0 : IVec S_ 32 := constantI S_ 32 254#32
  let main_v3 : IVec S80x19456 32 := broadcastInDim S80x19456 ![] bcast_S_S80x19456 main_c_0
  let main_v4 : IVec S80x19456 1 := cmpi .sle main_v0 main_v3
  let main_v5 : IVec S80x19456 1 := andi main_v2 main_v4
  main_v5
-- ==== Pre_oproj_scales_normal.lean ====
abbrev S2048x4096 : Shape := ⟨2, ![2048, 4096]⟩
abbrev S2048x2560 : Shape := ⟨2, ![2048, 2560]⟩
abbrev S4096x2560 : Shape := ⟨2, ![4096, 2560]⟩
abbrev S128x2560 : Shape := ⟨2, ![128, 2560]⟩
abbrev S2560 : Shape := ⟨1, ![2560]⟩
abbrev S_ : Shape := ⟨0, ![]⟩

class Facts : Prop where
  natLt_8_32 : 8 < 32
  bcast_S_S128x2560 : S_.BroadcastsInDim S128x2560 (![] : Fin 0 → Fin S128x2560.rank)

variable [Facts]

def fn {F : FTy → Type} [FloatOps F] (main_arg0 : FVec F S2048x4096 .bf16) (main_arg1 : FVec F S2048x2560 .bf16) (main_arg2 : FVec F S4096x2560 .fp8e4m3) (main_arg3 : IVec S128x2560 8) (main_arg4 : FVec F S2560 .f32) : IVec S128x2560 1 :=
  let main_v0 : IVec S128x2560 32 := (extui 32 · natLt_8_32) main_arg3
  let main_c : IVec S_ 32 := constantI S_ 32 1#32
  let main_v1 : IVec S128x2560 32 := broadcastInDim S128x2560 ![] bcast_S_S128x2560 main_c
  let main_v2 : IVec S128x2560 1 := cmpi .sge main_v0 main_v1
  let main_c_0 : IVec S_ 32 := constantI S_ 32 254#32
  let main_v3 : IVec S128x2560 32 := broadcastInDim S128x2560 ![] bcast_S_S128x2560 main_c_0
  let main_v4 : IVec S128x2560 1 := cmpi .sle main_v0 main_v3
  let main_v5 : IVec S128x2560 1 := andi main_v2 main_v4
  main_v5
-- ==== Down.lean ====
abbrev S2048x9728 : Shape := ⟨2, ![2048, 9728]⟩
abbrev S2048x2560 : Shape := ⟨2, ![2048, 2560]⟩
abbrev S9728x2560 : Shape := ⟨2, ![9728, 2560]⟩
abbrev S304x2560 : Shape := ⟨2, ![304, 2560]⟩
abbrev S2048x512 : Shape := ⟨2, ![2048, 512]⟩
abbrev S2048x1280 : Shape := ⟨2, ![2048, 1280]⟩
abbrev S512x1280 : Shape := ⟨2, ![512, 1280]⟩
abbrev S16x1280 : Shape := ⟨2, ![16, 1280]⟩
abbrev S256x1280 : Shape := ⟨2, ![256, 1280]⟩
abbrev S8x1280 : Shape := ⟨2, ![8, 1280]⟩
abbrev S8x1x1280 : Shape := ⟨3, ![8, 1, 1280]⟩
abbrev S8x32x1280 : Shape := ⟨3, ![8, 32, 1280]⟩
abbrev S256x512 : Shape := ⟨2, ![256, 512]⟩

abbrev nBuf : Space → Nat
  | .hbm => 5
  | .vmem => 12
  | .smem => 0
  | _ => 0

abbrev bufTy : (tb : Table) → Fin (tcTables nBuf tb) → BufTy
  | .hbm, ⟨0, _⟩ => ⟨S2048x9728, .bf16⟩
  | .hbm, ⟨1, _⟩ => ⟨S2048x2560, .f32⟩
  | .hbm, ⟨2, _⟩ => ⟨S9728x2560, .fp8e4m3⟩
  | .hbm, ⟨3, _⟩ => ⟨S304x2560, .i8⟩
  | .hbm, ⟨4, _⟩ => ⟨S2048x2560, .bf16⟩
  | .local _ .vmem, ⟨0, _⟩ => ⟨S2048x512, .bf16⟩
  | .local _ .vmem, ⟨1, _⟩ => ⟨S2048x512, .bf16⟩
  | .local _ .vmem, ⟨2, _⟩ => ⟨S2048x1280, .f32⟩
  | .local _ .vmem, ⟨3, _⟩ => ⟨S2048x1280, .f32⟩
  | .local _ .vmem, ⟨4, _⟩ => ⟨S512x1280, .fp8e4m3⟩
  | .local _ .vmem, ⟨5, _⟩ => ⟨S512x1280, .fp8e4m3⟩
  | .local _ .vmem, ⟨6, _⟩ => ⟨S16x1280, .i8⟩
  | .local _ .vmem, ⟨7, _⟩ => ⟨S16x1280, .i8⟩
  | .local _ .vmem, ⟨8, _⟩ => ⟨S2048x1280, .bf16⟩
  | .local _ .vmem, ⟨9, _⟩ => ⟨S2048x1280, .bf16⟩
  | .local _ .vmem, ⟨10, _⟩ => ⟨S512x1280, .bf16⟩
  | .local _ .vmem, ⟨11, _⟩ => ⟨S2048x1280, .f32⟩
  | _, _ => ⟨S2048x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 19], ![false, false]⟩

def k0_cond2 (i : grid0.Coords) : BitVec 1 :=
  let arg1 : BitVec 32 := BitVec.ofNat 32 (i 1).val
  let c18_i32 : BitVec 32 := 18#32
  let v99 : BitVec 1 := Scalar.cmpi .eq arg1 c18_i32
  let v100 : BitVec 32 := Scalar.extui v99
  let c0_i32_76 : BitVec 32 := 0#32
  let v101 : BitVec 1 := Scalar.cmpi .ne v100 c0_i32_76
  v101

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownRefIdeal.lean ====
abbrev S2048x9728 : Shape := ⟨2, ![2048, 9728]⟩
abbrev S2048x2560 : Shape := ⟨2, ![2048, 2560]⟩
abbrev S9728x2560 : Shape := ⟨2, ![9728, 2560]⟩
abbrev S304x2560 : Shape := ⟨2, ![304, 2560]⟩
abbrev S304x1x2560 : Shape := ⟨3, ![304, 1, 2560]⟩
abbrev S304x32x2560 : Shape := ⟨3, ![304, 32, 2560]⟩

abbrev nBuf : Space → Nat
  | .hbm => 5
  | .vmem => 5
  | .smem => 0
  | _ => 0

abbrev bufTy : (tb : Table) → Fin (tcTables nBuf tb) → BufTy
  | .hbm, ⟨0, _⟩ => ⟨S2048x9728, .bf16⟩
  | .hbm, ⟨1, _⟩ => ⟨S2048x2560, .f32⟩
  | .hbm, ⟨2, _⟩ => ⟨S9728x2560, .fp8e4m3⟩
  | .hbm, ⟨3, _⟩ => ⟨S304x2560, .i8⟩
  | .hbm, ⟨4, _⟩ => ⟨S2048x2560, .bf16⟩
  | .local _ .vmem, ⟨0, _⟩ => ⟨S2048x9728, .bf16⟩
  | .local _ .vmem, ⟨1, _⟩ => ⟨S2048x2560, .f32⟩
  | .local _ .vmem, ⟨2, _⟩ => ⟨S9728x2560, .fp8e4m3⟩
  | .local _ .vmem, ⟨3, _⟩ => ⟨S304x2560, .i8⟩
  | .local _ .vmem, ⟨4, _⟩ => ⟨S2048x2560, .bf16⟩
  | _, _ => ⟨S2048x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x9728 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9728x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S304x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gu.lean ====
abbrev S2048x2560 : Shape := ⟨2, ![2048, 2560]⟩
abbrev S2560x19456 : Shape := ⟨2, ![2560, 19456]⟩
abbrev S80x19456 : Shape := ⟨2, ![80, 19456]⟩
abbrev S2048x9728 : Shape := ⟨2, ![2048, 9728]⟩
abbrev S2x304x1024 : Shape := ⟨3, ![2, 304, 1024]⟩
abbrev S2560x512 : Shape := ⟨2, ![2560, 512]⟩
abbrev S80x512 : Shape := ⟨2, ![80, 512]⟩
abbrev S2048x512 : Shape := ⟨2, ![2048, 512]⟩
abbrev S2x16x1024 : Shape := ⟨3, ![2, 16, 1024]⟩
abbrev S2560x1024 : Shape := ⟨2, ![2560, 1024]⟩
abbrev S256x512 : Shape := ⟨2, ![256, 512]⟩
abbrev S8x512 : Shape := ⟨2, ![8, 512]⟩
abbrev S8x1x512 : Shape := ⟨3, ![8, 1, 512]⟩
abbrev S8x32x512 : Shape := ⟨3, ![8, 32, 512]⟩
abbrev S256x2560 : Shape := ⟨2, ![256, 2560]⟩
abbrev S256x1024 : Shape := ⟨2, ![256, 1024]⟩
abbrev S256x128 : Shape := ⟨2, ![256, 128]⟩
abbrev S128x256 : Shape := ⟨2, ![128, 256]⟩
abbrev S4x32x256 : Shape := ⟨3, ![4, 32, 256]⟩
abbrev S4x256 : Shape := ⟨2, ![4, 256]⟩
abbrev S252x4x256 : Shape := ⟨3, ![252, 4, 256]⟩
abbrev S1x4x256 : Shape := ⟨3, ![1, 4, 256]⟩
abbrev S4x1x256 : Shape := ⟨3, ![4, 1, 256]⟩
abbrev S16x256 : Shape := ⟨2, ![16, 256]⟩
abbrev S1x16x256 : Shape := ⟨3, ![1, 16, 256]⟩

abbrev nBuf : Space → Nat
  | .hbm => 6
  | .vmem => 16
  | .smem => 0
  | _ => 0

abbrev bufTy : (tb : Table) → Fin (tcTables nBuf tb) → BufTy
  | .hbm, ⟨0, _⟩ => ⟨S2048x2560, .bf16⟩
  | .hbm, ⟨1, _⟩ => ⟨S2560x19456, .fp8e4m3⟩
  | .hbm, ⟨2, _⟩ => ⟨S80x19456, .i8⟩
  | .hbm, ⟨3, _⟩ => ⟨S2048x9728, .fp8e4m3⟩
  | .hbm, ⟨4, _⟩ => ⟨S2x304x1024, .i8⟩
  | .hbm, ⟨5, _⟩ => ⟨S2048x9728, .bf16⟩
  | .local _ .vmem, ⟨0, _⟩ => ⟨S2048x2560, .bf16⟩
  | .local _ .vmem, ⟨1, _⟩ => ⟨S2560x512, .fp8e4m3⟩
  | .local _ .vmem, ⟨2, _⟩ => ⟨S2560x512, .fp8e4m3⟩
  | .local _ .vmem, ⟨3, _⟩ => ⟨S80x512, .i8⟩
  | .local _ .vmem, ⟨4, _⟩ => ⟨S80x512, .i8⟩
  | .local _ .vmem, ⟨5, _⟩ => ⟨S2560x512, .fp8e4m3⟩
  | .local _ .vmem, ⟨6, _⟩ => ⟨S2560x512, .fp8e4m3⟩
  | .local _ .vmem, ⟨7, _⟩ => ⟨S80x512, .i8⟩
  | .local _ .vmem, ⟨8, _⟩ => ⟨S80x512, .i8⟩
  | .local _ .vmem, ⟨9, _⟩ => ⟨S2048x512, .fp8e4m3⟩
  | .local _ .vmem, ⟨10, _⟩ => ⟨S2048x512, .fp8e4m3⟩
  | .local _ .vmem, ⟨11, _⟩ => ⟨S2x16x1024, .i8⟩
  | .local _ .vmem, ⟨12, _⟩ => ⟨S2x16x1024, .i8⟩
  | .local _ .vmem, ⟨13, _⟩ => ⟨S2048x512, .bf16⟩
  | .local _ .vmem, ⟨14, _⟩ => ⟨S2048x512, .bf16⟩
  | .local _ .vmem, ⟨15, _⟩ => ⟨S2560x1024, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x16x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GuRefIdeal.lean ====
abbrev S2048x2560 : Shape := ⟨2, ![2048, 2560]⟩
abbrev S2560x19456 : Shape := ⟨2, ![2560, 19456]⟩
abbrev S80x19456 : Shape := ⟨2, ![80, 19456]⟩
abbrev S2048x9728 : Shape := ⟨2, ![2048, 9728]⟩
abbrev S2x304x1024 : Shape := ⟨3, ![2, 304, 1024]⟩
abbrev S80x1x19456 : Shape := ⟨3, ![80, 1, 19456]⟩
abbrev S80x32x19456 : Shape := ⟨3, ![80, 32, 19456]⟩
abbrev S2048x19456 : Shape := ⟨2, ![2048, 19456]⟩
abbrev S2048x304x32 : Shape := ⟨3, ![2048, 304, 32]⟩
abbrev S2048x304 : Shape := ⟨2, ![2048, 304]⟩
abbrev S2048x304x1 : Shape := ⟨3, ![2048, 304, 1]⟩
abbrev S1024x304 : Shape := ⟨2, ![1024, 304]⟩
abbrev S304x1024 : Shape := ⟨2, ![304, 1024]⟩
abbrev S1x304x1024 : Shape := ⟨3, ![1, 304, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2560, .bf16⟩
  | .hbm, ⟨1, _⟩ => ⟨S2560x19456, .fp8e4m3⟩
  | .hbm, ⟨2, _⟩ => ⟨S80x19456, .i8⟩
  | .hbm, ⟨3, _⟩ => ⟨S2048x9728, .fp8e4m3⟩
  | .hbm, ⟨4, _⟩ => ⟨S2x304x1024, .i8⟩
  | .hbm, ⟨5, _⟩ => ⟨S2048x9728, .bf16⟩
  | .local _ .vmem, ⟨0, _⟩ => ⟨S2048x2560, .bf16⟩
  | .local _ .vmem, ⟨1, _⟩ => ⟨S2560x19456, .fp8e4m3⟩
  | .local _ .vmem, ⟨2, _⟩ => ⟨S80x19456, .i8⟩
  | .local _ .vmem, ⟨3, _⟩ => ⟨S2048x9728, .fp8e4m3⟩
  | .local _ .vmem, ⟨4, _⟩ => ⟨S2x304x1024, .i8⟩
  | .local _ .vmem, ⟨5, _⟩ => ⟨S2048x9728, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x19456 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x19456 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x9728 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x304x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x9728 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Oproj.lean ====
abbrev S2048x4096 : Shape := ⟨2, ![2048, 4096]⟩
abbrev S2048x2560 : Shape := ⟨2, ![2048, 2560]⟩
abbrev S4096x2560 : Shape := ⟨2, ![4096, 2560]⟩
abbrev S128x2560 : Shape := ⟨2, ![128, 2560]⟩
abbrev S2560 : Shape := ⟨1, ![2560]⟩
abbrev S1x2560 : Shape := ⟨2, ![1, 2560]⟩
abbrev S2x80x1024 : Shape := ⟨3, ![2, 80, 1024]⟩
abbrev S256x4096 : Shape := ⟨2, ![256, 4096]⟩
abbrev S256x2560 : Shape := ⟨2, ![256, 2560]⟩
abbrev S1x80x256 : Shape := ⟨3, ![1, 80, 256]⟩
abbrev S8x2560 : Shape := ⟨2, ![8, 2560]⟩
abbrev S8x1x2560 : Shape := ⟨3, ![8, 1, 2560]⟩
abbrev S8x32x2560 : Shape := ⟨3, ![8, 32, 2560]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S4x32x256 : Shape := ⟨3, ![4, 32, 256]⟩
abbrev S4x256 : Shape := ⟨2, ![4, 256]⟩
abbrev S252x4x256 : Shape := ⟨3, ![252, 4, 256]⟩
abbrev S1x4x256 : Shape := ⟨3, ![1, 4, 256]⟩
abbrev S4x1x256 : Shape := ⟨3, ![4, 1, 256]⟩
abbrev S80x256 : Shape := ⟨2, ![80, 256]⟩

abbrev nBuf : Space → Nat
  | .hbm => 10
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S2048x2560, .bf16⟩
  | .hbm, ⟨2, _⟩ => ⟨S4096x2560, .fp8e4m3⟩
  | .hbm, ⟨3, _⟩ => ⟨S128x2560, .i8⟩
  | .hbm, ⟨4, _⟩ => ⟨S2560, .f32⟩
  | .hbm, ⟨5, _⟩ => ⟨S1x2560, .f32⟩
  | .hbm, ⟨6, _⟩ => ⟨S2048x2560, .f32⟩
  | .hbm, ⟨7, _⟩ => ⟨S2048x2560, .fp8e4m3⟩
  | .hbm, ⟨8, _⟩ => ⟨S2x80x1024, .i8⟩
  | .hbm, ⟨9, _⟩ => ⟨S2048x2560, .bf16⟩
  | .local _ .vmem, ⟨0, _⟩ => ⟨S256x4096, .bf16⟩
  | .local _ .vmem, ⟨1, _⟩ => ⟨S256x4096, .bf16⟩
  | .local _ .vmem, ⟨2, _⟩ => ⟨S256x2560, .bf16⟩
  | .local _ .vmem, ⟨3, _⟩ => ⟨S256x2560, .bf16⟩
  | .local _ .vmem, ⟨4, _⟩ => ⟨S4096x2560, .fp8e4m3⟩
  | .local _ .vmem, ⟨5, _⟩ => ⟨S128x2560, .i8⟩
  | .local _ .vmem, ⟨6, _⟩ => ⟨S1x2560, .f32⟩
  | .local _ .vmem, ⟨7, _⟩ => ⟨S256x2560, .f32⟩
  | .local _ .vmem, ⟨8, _⟩ => ⟨S256x2560, .f32⟩
  | .local _ .vmem, ⟨9, _⟩ => ⟨S256x2560, .fp8e4m3⟩
  | .local _ .vmem, ⟨10, _⟩ => ⟨S256x2560, .fp8e4m3⟩
  | .local _ .vmem, ⟨11, _⟩ => ⟨S1x80x256, .i8⟩
  | .local _ .vmem, ⟨12, _⟩ => ⟨S1x80x256, .i8⟩
  | .local _ .vmem, ⟨13, _⟩ => ⟨S256x2560, .bf16⟩
  | .local _ .vmem, ⟨14, _⟩ => ⟨S256x2560, .bf16⟩
  | .local _ .vmem, ⟨15, _⟩ => ⟨S4096x2560, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x80x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojRefIdeal.lean ====
abbrev S2048x4096 : Shape := ⟨2, ![2048, 4096]⟩
abbrev S2048x2560 : Shape := ⟨2, ![2048, 2560]⟩
abbrev S4096x2560 : Shape := ⟨2, ![4096, 2560]⟩
abbrev S128x2560 : Shape := ⟨2, ![128, 2560]⟩
abbrev S2560 : Shape := ⟨1, ![2560]⟩
abbrev S1x2560 : Shape := ⟨2, ![1, 2560]⟩
abbrev S2x80x1024 : Shape := ⟨3, ![2, 80, 1024]⟩
abbrev S128x1x2560 : Shape := ⟨3, ![128, 1, 2560]⟩
abbrev S128x32x2560 : Shape := ⟨3, ![128, 32, 2560]⟩
abbrev S2048 : Shape := ⟨1, ![2048]⟩
abbrev S2048x1 : Shape := ⟨2, ![2048, 1]⟩
abbrev S2048x80x32 : Shape := ⟨3, ![2048, 80, 32]⟩
abbrev S2048x80 : Shape := ⟨2, ![2048, 80]⟩
abbrev S2048x80x1 : Shape := ⟨3, ![2048, 80, 1]⟩
abbrev S1024x80 : Shape := ⟨2, ![1024, 80]⟩
abbrev S80x1024 : Shape := ⟨2, ![80, 1024]⟩
abbrev S1x80x1024 : Shape := ⟨3, ![1, 80, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S2048x2560, .bf16⟩
  | .hbm, ⟨2, _⟩ => ⟨S4096x2560, .fp8e4m3⟩
  | .hbm, ⟨3, _⟩ => ⟨S128x2560, .i8⟩
  | .hbm, ⟨4, _⟩ => ⟨S2560, .f32⟩
  | .hbm, ⟨5, _⟩ => ⟨S1x2560, .f32⟩
  | .hbm, ⟨6, _⟩ => ⟨S2048x2560, .f32⟩
  | .hbm, ⟨7, _⟩ => ⟨S2048x2560, .fp8e4m3⟩
  | .hbm, ⟨8, _⟩ => ⟨S2x80x1024, .i8⟩
  | .hbm, ⟨9, _⟩ => ⟨S2048x2560, .bf16⟩
  | .local _ .vmem, ⟨0, _⟩ => ⟨S2048x4096, .bf16⟩
  | .local _ .vmem, ⟨1, _⟩ => ⟨S2048x2560, .bf16⟩
  | .local _ .vmem, ⟨2, _⟩ => ⟨S4096x2560, .fp8e4m3⟩
  | .local _ .vmem, ⟨3, _⟩ => ⟨S128x2560, .i8⟩
  | .local _ .vmem, ⟨4, _⟩ => ⟨S1x2560, .f32⟩
  | .local _ .vmem, ⟨5, _⟩ => ⟨S2048x2560, .f32⟩
  | .local _ .vmem, ⟨6, _⟩ => ⟨S2048x2560, .fp8e4m3⟩
  | .local _ .vmem, ⟨7, _⟩ => ⟨S2x80x1024, .i8⟩
  | .local _ .vmem, ⟨8, _⟩ => ⟨S2048x2560, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x80x1024 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Xq.lean ====
abbrev S2048x2560 : Shape := ⟨2, ![2048, 2560]⟩
abbrev S2560 : Shape := ⟨1, ![2560]⟩
abbrev S1x2560 : Shape := ⟨2, ![1, 2560]⟩
abbrev S2x80x1024 : Shape := ⟨3, ![2, 80, 1024]⟩
abbrev S256x2560 : Shape := ⟨2, ![256, 2560]⟩
abbrev S1x80x256 : Shape := ⟨3, ![1, 80, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S4x32x256 : Shape := ⟨3, ![4, 32, 256]⟩
abbrev S4x256 : Shape := ⟨2, ![4, 256]⟩
abbrev S252x4x256 : Shape := ⟨3, ![252, 4, 256]⟩
abbrev S1x4x256 : Shape := ⟨3, ![1, 4, 256]⟩
abbrev S4x1x256 : Shape := ⟨3, ![4, 1, 256]⟩
abbrev S80x256 : Shape := ⟨2, ![80, 256]⟩

abbrev nBuf : Space → Nat
  | .hbm => 6
  | .vmem => 9
  | .smem => 0
  | _ => 0

abbrev bufTy : (tb : Table) → Fin (tcTables nBuf tb) → BufTy
  | .hbm, ⟨0, _⟩ => ⟨S2048x2560, .bf16⟩
  | .hbm, ⟨1, _⟩ => ⟨S2560, .f32⟩
  | .hbm, ⟨2, _⟩ => ⟨S1x2560, .f32⟩
  | .hbm, ⟨3, _⟩ => ⟨S2048x2560, .fp8e4m3⟩
  | .hbm, ⟨4, _⟩ => ⟨S2x80x1024, .i8⟩
  | .hbm, ⟨5, _⟩ => ⟨S2048x2560, .bf16⟩
  | .local _ .vmem, ⟨0, _⟩ => ⟨S256x2560, .bf16⟩
  | .local _ .vmem, ⟨1, _⟩ => ⟨S256x2560, .bf16⟩
  | .local _ .vmem, ⟨2, _⟩ => ⟨S1x2560, .f32⟩
  | .local _ .vmem, ⟨3, _⟩ => ⟨S256x2560, .fp8e4m3⟩
  | .local _ .vmem, ⟨4, _⟩ => ⟨S256x2560, .fp8e4m3⟩
  | .local _ .vmem, ⟨5, _⟩ => ⟨S1x80x256, .i8⟩
  | .local _ .vmem, ⟨6, _⟩ => ⟨S1x80x256, .i8⟩
  | .local _ .vmem, ⟨7, _⟩ => ⟨S256x2560, .bf16⟩
  | .local _ .vmem, ⟨8, _⟩ => ⟨S256x2560, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XqRefIdeal.lean ====
abbrev S2048x2560 : Shape := ⟨2, ![2048, 2560]⟩
abbrev S2560 : Shape := ⟨1, ![2560]⟩
abbrev S1x2560 : Shape := ⟨2, ![1, 2560]⟩
abbrev S2x80x1024 : Shape := ⟨3, ![2, 80, 1024]⟩
abbrev S2048 : Shape := ⟨1, ![2048]⟩
abbrev S2048x1 : Shape := ⟨2, ![2048, 1]⟩
abbrev S2048x80x32 : Shape := ⟨3, ![2048, 80, 32]⟩
abbrev S2048x80 : Shape := ⟨2, ![2048, 80]⟩
abbrev S2048x80x1 : Shape := ⟨3, ![2048, 80, 1]⟩
abbrev S1024x80 : Shape := ⟨2, ![1024, 80]⟩
abbrev S80x1024 : Shape := ⟨2, ![80, 1024]⟩
abbrev S1x80x1024 : Shape := ⟨3, ![1, 80, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x2560, .bf16⟩
  | .hbm, ⟨1, _⟩ => ⟨S2560, .f32⟩
  | .hbm, ⟨2, _⟩ => ⟨S1x2560, .f32⟩
  | .hbm, ⟨3, _⟩ => ⟨S2048x2560, .fp8e4m3⟩
  | .hbm, ⟨4, _⟩ => ⟨S2x80x1024, .i8⟩
  | .hbm, ⟨5, _⟩ => ⟨S2048x2560, .bf16⟩
  | .local _ .vmem, ⟨0, _⟩ => ⟨S2048x2560, .bf16⟩
  | .local _ .vmem, ⟨1, _⟩ => ⟨S1x2560, .f32⟩
  | .local _ .vmem, ⟨2, _⟩ => ⟨S2048x2560, .fp8e4m3⟩
  | .local _ .vmem, ⟨3, _⟩ => ⟨S2x80x1024, .i8⟩
  | .local _ .vmem, ⟨4, _⟩ => ⟨S2048x2560, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x80x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scale.lean ====
/- The scale words of the weights: an exponent byte shifted into the exponent field of a 32-bit float is the power of two
   that it stands for. Shared by every projection. -/
module

public import Idealize.ShloMosaic.Lib.Pointwise
public import Idealize.ShloMosaic.PureOps.Ideal

@[expose] public section

set_option maxRecDepth 16384

noncomputable section

open Idealize.ShloMosaic

namespace Cert.Hand

/-- A byte shifted up by 23 has a clear sign, the byte as its exponent field and an empty significand. -/
theorem shifted_fields : ∀ e : BitVec 8,
    (IntOp.shli ArithUnit.vector (BitVec.setWidth 32 e) 23#32).extractLsb' 31 1 = 0#1
    ∧ (IntOp.shli ArithUnit.vector (BitVec.setWidth 32 e) 23#32).extractLsb' 23 8 = e
    ∧ (IntOp.shli ArithUnit.vector (BitVec.setWidth 32 e) 23#32).extractLsb' 0 23 = 0#23
    ∧ (BitVec.setWidth 32 e - 127#32).toInt = (e.toNat : Int) - 127 := by
  decide +kernel

/-- The real power of two with exponent `n - 127`, for any field `n` of a normal number, is what the pattern with exponent field `n` and empty significand denotes. -/
theorem ieee_pow (n : Nat) : (((1 : ℝ) * (2 ^ 23 + 0 : Nat) * (2 : ℝ) ^ ((n : Int) - (2 ^ (8 - 1) - 1) - 23) : ℝ)) = (2 : ℝ) ^ ((n : Int) - 127) := by
  have h : ((n : Int) - 127) = 23 + ((n : Int) - (2 ^ (8 - 1) - 1) - 23) := by norm_num
  rw [h, zpow_add₀ (by norm_num : (2 : ℝ) ≠ 0)]
  norm_num

/-- The scale word of a byte between 1 and 254 is `2^(byte - 127)`. -/
theorem scale_word (e : BitVec 8) (h1 : 1 ≤ e.toNat) (h2 : e.toNat ≤ 254) :
    Ideal.ofBits FTy.f32 (IntOp.shli ArithUnit.vector (BitVec.setWidth 32 e) 23#32)
      = (((2 : ℝ) ^ ((e.toNat : Int) - 127) : ℝ) : EReal) := by
  obtain ⟨a, b, d, -⟩ := shifted_fields e
  show Ideal.ieee 8 23 _ = _
  unfold Ideal.ieee
  rw [show (8 + 23) = 31 from rfl, a, b, d]
  dsimp only
  rw [if_neg (by norm_num; omega), if_neg (by omega)]
  rw [← ieee_pow]
  norm_num

/-- `2` to the integer `byte - 127`, as the reference writes it, is the same power. -/
theorem exp2_word (e : BitVec 8) :
    Ideal.exp2 (((BitVec.setWidth 32 e - 127#32).toInt : ℝ) : EReal) = (((2 : ℝ) ^ ((e.toNat : Int) - 127) : ℝ) : EReal) := by
  rw [(shifted_fields e).2.2.2]
  show ((Real.rpow 2 _ : ℝ) : EReal) = _
  rw [Real.rpow_eq_pow, Real.rpow_intCast]

/-- An exponent that passes the test of the precondition is that of a normal number. -/
theorem normal_bits : ∀ e : BitVec 8, IntOp.andi (IntOp.cmpi CmpIPredicate.sge (BitVec.setWidth 32 e) 1#32)
    (IntOp.cmpi CmpIPredicate.sle (BitVec.setWidth 32 e) 254#32) = 1#1 → 1 ≤ e.toNat ∧ e.toNat ≤ 254 := by
  decide +kernel

end Cert.Hand

end
-- ==== Proof.DownBlock.lean ====
/- What one grid point of the last projection computes: the widened weights, the sum it adds to the accumulator, the block it writes. -/
module

public import proofs.«01_k».proof.Proof.Gen.DownIdeal.Value
public import proofs.«01_k».proof.Proof.Scale
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Hand

/-- A load of a whole buffer after any stores reads what the stores left. -/
theorem readCov_all {sig : RefSig} {κ : Kind} {sp : Space} {S : Shape} {e : EltTy} {Val : EltTy → Type} [∀ e, Nonempty (Val e)]
    (v : View sig κ sp S e) {off : Fin S.rank → Nat} (inb : ∀ a, off a + S.size a ≤ S.size a) (L : List (View.Piece Val S e))
    (h : ∀ a, off a = 0) : v.readCov L (Rect.unit off (no_index S.size) inb).toLoadRect = View.canon L := by
  rw [View.readCov_eq_canon']
  exact View.ld_unit_lit inb (View.canon L) h

end Cert.Hand

namespace Cert.DownIdeal.Hand

open Cert.DownIdeal Cert.DownIdeal.Gen Cert.Hand

/-- The widened weights of one grid point, as the two stores leave them. -/
def wide (x2 : Vec Ideal S512x1280 .fp8e4m3) (x3 : Vec Ideal S16x1280 .i8) : Vec Ideal S512x1280 .bf16 :=
  View.canon (Val := Elt Ideal)
    [⟨Rect.unit ![256, 0] S256x1280.size inb_S512x1280_S256x1280_256_0,
        k0_pay6 (View.ld x2 (Rect.unit ![256, 0] S256x1280.size inb_S512x1280_S256x1280_256_0))
          (View.ld x3 (Rect.unit ![8, 0] S8x1280.size inb_S16x1280_S8x1280_8_0))⟩,
      ⟨Rect.unit ![0, 0] S256x1280.size inb_S512x1280_S256x1280_0_0,
        k0_pay5 (View.ld x2 (Rect.unit ![0, 0] S256x1280.size inb_S512x1280_S256x1280_0_0))
          (View.ld x3 (Rect.unit ![0, 0] S8x1280.size inb_S16x1280_S8x1280_0_0))⟩]

/-- A widened weight is the code times the scale word of its group of 32 rows. -/
theorem wide_at (x2 : Vec Ideal S512x1280 .fp8e4m3) (x3 : Vec Ideal S16x1280 .i8) (k : Fin 512) (n : Fin 1280) :
    wide x2 x3 (ix2 k n) = (x2 (ix2 k n) * Ideal.ofBits FTy.f32 (IntOp.shli ArithUnit.vector (BitVec.setWidth 32 (x3 (ix2 (⟨k.val / 32, by omega⟩ : Fin 16) n))) 23#32) : EReal) := by
  unfold wide
  canon_tiles x h
  all_goals pointwise [k0_pay5, k0_pay6]
  all_goals
    have hk : k.val = _ := h0
    have hn : n.val = _ := h1
    blk_point

/-- A middle point adds its 512 terms of the contraction to the accumulator. -/
theorem sout_B (c : Dev nD) (t : Fin cfg0.N) (h0 : ¬cond0_0 (grid0.coords t)) (h1 : ¬cond0_1 (grid0.coords t))
    (x0 : Vec Ideal S2048x512 .bf16) (x1 : Vec Ideal S2048x1280 .f32) (x2 : Vec Ideal S512x1280 .fp8e4m3) (x3 : Vec Ideal S16x1280 .i8)
    (xs : Vec Ideal S2048x1280 .f32) (p : Fin 2048) (n : Fin 1280) :
    sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) h0 h1 x0 x1 x2 x3 xs (ix2 p n)
      = (xs (ix2 p n) + ∑ k : Fin 512, x0 (ix2 p k) * wide x2 x3 (ix2 k n) : EReal) := by
  frame_out
  simp (disch := decide) only [read_unread_whole, readCov_all]
  change _ = (xs (ix2 p n) + ∑ k : Fin 512, x0 (ix2 p k) * View.canon (Val := Elt Ideal) [_, _] (ix2 k n) : EReal)
  generalize (View.canon (Val := Elt Ideal) [(⟨Rect.unit ![256, 0] ![256, 1280] inb_S512x1280_S256x1280_256_0, _⟩ : View.Piece (Elt Ideal) S512x1280 EltTy.bf16), _]) = w
  canon_tiles x h
  all_goals (refine (show _ = (_ : EReal) from ?_); open_payloads)
  all_goals pointwise
  all_goals
    have hk : p.val = _ := ‹((ix2 p n) 0).val = _›
    have hn : n.val = _ := ‹((ix2 p n) 1).val = _›
    blk_point

end Cert.DownIdeal.Hand

end
-- ==== Proof.DownFold.lean ====
/- The first and last points of a run of the last projection, and the accumulator after a run as one sum. -/
module

public import proofs.«01_k».proof.Proof.DownBlock

@[expose] public section

set_option maxRecDepth 16384

noncomputable section

open Idealize.ShloMosaic Idealize.ShloMosaic.TcCoe Idealize.SL.Sem

namespace Cert.Hand

/-- Stores that cover an index leave there what they leave without the earlier stores under them. -/
theorem canon_over {S : Shape} {e : EltTy} : ∀ (L L' : List (View.Piece (Elt Ideal) S e)) (y : S.Idx) (_ : ∃ p ∈ L, y ∈ p.1.set),
    View.canon (Val := Elt Ideal) (L ++ L') y = View.canon L y
  | [], _, _, hy => by obtain ⟨p, hp, _⟩ := hy; simp at hp
  | p :: L, L', y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L L' y ?_
      obtain ⟨q, hq, hyq⟩ := hy
      rcases List.mem_cons.mp hq with rfl | hq'
      · exact absurd hyq hm
      · exact ⟨q, hq', hyq⟩

end Cert.Hand

namespace Cert.DownIdeal.Hand

open Cert.DownIdeal Cert.DownIdeal.Gen Cert.Hand

/-- The first point of a run leaves its 512 terms of the contraction alone. -/
theorem sout_A (c : Dev nD) (t : Fin cfg0.N) (h0 : cond0_0 (grid0.coords t)) (h1 : ¬cond0_1 (grid0.coords t))
    (x0 : Vec Ideal S2048x512 .bf16) (x1 : Vec Ideal S2048x1280 .f32) (x2 : Vec Ideal S512x1280 .fp8e4m3) (x3 : Vec Ideal S16x1280 .i8)
    (p : Fin 2048) (n : Fin 1280) :
    sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) h0 h1 x0 x1 x2 x3 (ix2 p n)
      = (0 + ∑ k : Fin 512, x0 (ix2 p k) * wide x2 x3 (ix2 k n) : EReal) := by
  frame_open
  simp (disch := decide) only [↓ View.readCov_skip, ↓ View.readCov_cons_toLoadRect, ↓ View.readCov_fill]
  frame_out
  simp (disch := decide) only [read_unread_whole, readCov_all]
  change _ = (0 + ∑ k : Fin 512, x0 (ix2 p k) * View.canon (Val := Elt Ideal) [_, _] (ix2 k n) : EReal)
  generalize (View.canon (Val := Elt Ideal) [(⟨Rect.unit ![256, 0] ![256, 1280] inb_S512x1280_S256x1280_256_0, _⟩ : View.Piece (Elt Ideal) S512x1280 EltTy.bf16), _]) = w
  refine (canon_over [_, _, _, _, _, _, _, _] [_] (ix2 p n) (View.cover_of_tiled_head _ _ _ rfl _)).trans ?_
  canon_tiles x h
  all_goals (refine (show _ = (_ : EReal) from ?_); open_payloads)
  all_goals pointwise [k0_pay4]
  all_goals
    have hk : p.val = _ := ‹((ix2 p n) 0).val = _›
    have hn : n.val = _ := ‹((ix2 p n) 1).val = _›
    blk_point

/-- The last point of a run leaves the accumulator like a middle point. -/
theorem sout_C (c : Dev nD) (t : Fin cfg0.N) (h0 : ¬cond0_0 (grid0.coords t)) (h1 : cond0_1 (grid0.coords t))
    (x0 : Vec Ideal S2048x512 .bf16) (x1 : Vec Ideal S2048x1280 .f32) (x2 : Vec Ideal S512x1280 .fp8e4m3) (x3 : Vec Ideal S16x1280 .i8)
    (xs : Vec Ideal S2048x1280 .f32) (p : Fin 2048) (n : Fin 1280) :
    sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) h0 h1 x0 x1 x2 x3 xs (ix2 p n)
      = (xs (ix2 p n) + ∑ k : Fin 512, x0 (ix2 p k) * wide x2 x3 (ix2 k n) : EReal) := by
  frame_out
  simp (disch := decide) only [read_unread_whole, readCov_all]
  change _ = (xs (ix2 p n) + ∑ k : Fin 512, x0 (ix2 p k) * View.canon (Val := Elt Ideal) [_, _] (ix2 k n) : EReal)
  generalize (View.canon (Val := Elt Ideal) [(⟨Rect.unit ![256, 0] ![256, 1280] inb_S512x1280_S256x1280_256_0, _⟩ : View.Piece (Elt Ideal) S512x1280 EltTy.bf16), _]) = w
  canon_tiles x h
  all_goals (refine (show _ = (_ : EReal) from ?_); open_payloads)
  all_goals pointwise
  all_goals
    have hk : p.val = _ := ‹((ix2 p n) 0).val = _›
    have hn : n.val = _ := ‹((ix2 p n) 1).val = _›
    blk_point

/-- The last point of a run writes the residual plus the accumulator as that point leaves it. -/
theorem out_C (c : Dev nD) (t : Fin cfg0.N) (h0 : ¬cond0_0 (grid0.coords t)) (h1 : cond0_1 (grid0.coords t))
    (x0 : Vec Ideal S2048x512 .bf16) (x1 : Vec Ideal S2048x1280 .f32) (x2 : Vec Ideal S512x1280 .fp8e4m3) (x3 : Vec Ideal S16x1280 .i8)
    (xs : Vec Ideal S2048x1280 .f32) (p : Fin 2048) (n : Fin 1280) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) h0 h1 x0 x1 x2 x3 xs (ix2 p n)
      = (x1 (ix2 p n) + sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) h0 h1 x0 x1 x2 x3 xs (ix2 p n) : EReal) := by
  frame_out
  simp (disch := decide) only [read_unread_whole, readCov_all]
  pointwise [k0_pay3]

/-- The activations a point reads. -/
def act (m : (ℓ : Loc nD τ sig) → Buf (Elt Ideal) ℓ) (c : Dev nD) (t : Fin cfg0.N) : Vec Ideal S2048x512 .bf16 := iblk m c 0 t
/-- The residual a point reads. -/
def res (m : (ℓ : Loc nD τ sig) → Buf (Elt Ideal) ℓ) (c : Dev nD) (t : Fin cfg0.N) : Vec Ideal S2048x1280 .f32 := iblk m c 1 t
/-- The scaled weights a point reads. -/
def wgt (m : (ℓ : Loc nD τ sig) → Buf (Elt Ideal) ℓ) (c : Dev nD) (t : Fin cfg0.N) : Vec Ideal S512x1280 .bf16 := wide (iblk m c 2 t) (iblk m c 3 t)

/-- What one point adds to the accumulator. -/
def term (m : (ℓ : Loc nD τ sig) → Buf (Elt Ideal) ℓ) (c : Dev nD) (t : Fin cfg0.N) (j : Fin 2048 × Fin 1280) : EReal :=
  ∑ k : Fin 512, act m c t (ix2 j.1 k) * wgt m c t (ix2 k j.2)

/-- The accumulator after a point. -/
def acc (m : (ℓ : Loc nD τ sig) → Buf (Elt Ideal) ℓ) (c : Dev nD) (t : ℕ) (h : t < cfg0.N) (j : Fin 2048 × Fin 1280) : EReal :=
  (outsAt0 m c t h).2 (ix2 j.1 j.2)

/-- The first point of a run starts from zero. -/
theorem acc_reset (m : (ℓ : Loc nD τ sig) → Buf (Elt Ideal) ℓ) (c : Dev nD) (t : Fin cfg0.N) (h : t.val % 19 = 0) (j : Fin 2048 × Fin 1280) :
    acc m c t.val t.isLt j = 0 + term m c t j := by
  have e := congrArg Prod.snd (outsAt0_A m c t h (by omega))
  have e' := sout_A c t ((hcond0_0 t).mpr h) (fun h' => absurd ((hcond0_1 t).mp h') (by omega)) (iblk m c 0 t) (iblk m c 1 t) (iblk m c 2 t) (iblk m c 3 t) j.1 j.2
  unfold acc term act wgt
  dsimp only at e
  rw [e]
  exact e'

/-- Every other point adds to what the point before left. -/
theorem acc_step (m : (ℓ : Loc nD τ sig) → Buf (Elt Ideal) ℓ) (c : Dev nD) (t : Fin cfg0.N) (h : ¬t.val % 19 = 0) (j : Fin 2048 × Fin 1280) :
    acc m c t.val t.isLt j = acc m c (t.val - 1) (Nat.lt_of_le_of_lt (Nat.sub_le _ _) t.isLt) j + term m c t j := by
  by_cases h1 : t.val % 19 = 18
  · have e := congrArg Prod.snd (outsAt0_C m c t h h1)
    have e' := sout_C c t (fun h' => h ((hcond0_0 t).mp h')) ((hcond0_1 t).mpr h1) (iblk m c 0 t) (iblk m c 1 t) (iblk m c 2 t) (iblk m c 3 t)
      (outsAt0 m c (t.val - 1) (Nat.lt_of_le_of_lt (Nat.sub_le _ _) t.isLt)).2 j.1 j.2
    unfold acc term act wgt
    dsimp only at e
    rw [e]
    exact e'
  · have e := congrArg Prod.snd (outsAt0_B m c t h h1)
    have e' := sout_B c t (fun h' => h ((hcond0_0 t).mp h')) (fun h' => h1 ((hcond0_1 t).mp h')) (iblk m c 0 t) (iblk m c 1 t) (iblk m c 2 t) (iblk m c 3 t)
      (outsAt0 m c (t.val - 1) (Nat.lt_of_le_of_lt (Nat.sub_le _ _) t.isLt)).2 j.1 j.2
    unfold acc term act wgt
    dsimp only at e
    rw [e]
    exact e'

/-- The last point of a run writes the residual plus the sum of the terms of its run. -/
theorem out_last (m : (ℓ : Loc nD τ sig) → Buf (Elt Ideal) ℓ) (c : Dev nD) (t : Fin cfg0.N) (ht : t.val % 19 = 18) (p : Fin 2048) (n : Fin 1280) :
    (outsAt0 m c t.val t.isLt).1 (ix2 p n) =
      (res m c t (ix2 p n) + ∑ s : Fin 19, term m c ⟨19 * (t.val / 19) + s.val, Pipeline.run_point_lt_of_flush t ht s⟩ (p, n) : EReal) := by
  have h0 : ¬t.val % 19 = 0 := by omega
  have key := Pipeline.eq_sum_fin_of_reset_step_apply_of_flush (acc m c) 19 (fun _ => 0) (term m c) (acc_reset m c) (acc_step m c) t ht (p, n)
  rw [zero_add] at key
  rw [← key]
  have e1 := congrArg Prod.fst (outsAt0_C m c t h0 ht)
  have e2 := congrArg Prod.snd (outsAt0_C m c t h0 ht)
  have e' := out_C c t (fun h' => h0 ((hcond0_0 t).mp h')) ((hcond0_1 t).mpr ht) (iblk m c 0 t) (iblk m c 1 t) (iblk m c 2 t) (iblk m c 3 t)
      (outsAt0 m c (t.val - 1) (Nat.lt_of_le_of_lt (Nat.sub_le _ _) t.isLt)).2 p n
  unfold acc res
  dsimp only at e1 e2
  rw [e1, e2]
  exact e'

end Cert.DownIdeal.Hand

end
-- ==== Proof.DownFinal.lean ====
/- The array the last projection writes, as one function of its argument arrays. -/
module

public import proofs.«01_k».proof.Proof.DownFold

@[expose] public section

set_option maxRecDepth 16384

noncomputable section

open Idealize.ShloMosaic Idealize.ShloMosaic.TcCoe Idealize.SL.Sem

namespace Cert.DownIdeal.Hand

open Cert.DownIdeal Cert.DownIdeal.Gen Cert.Hand

/-- The block each window holds at each grid point. -/
theorem idx : ∀ t : Fin cfg0.N, win0_0.index t = ![0, t.val % 19] ∧ win0_1.index t = ![0, t.val / 19] ∧ win0_2.index t = ![t.val % 19, t.val / 19]
    ∧ win0_3.index t = ![t.val % 19, t.val / 19] ∧ win0_4.index t = ![0, t.val / 19] :=
  (by decide +kernel : ∀ t : Fin grid0.N, _)

/-- The scale the kernel reads off a stored exponent. -/
def scale (e : BitVec 8) : EReal := Ideal.ofBits FTy.f32 (IntOp.shli ArithUnit.vector (BitVec.setWidth 32 e) 23#32)

/-- The residual plus the contraction of the activations with the scaled weights. -/
def value (a0 : Vec Ideal S2048x9728 .bf16) (a1 : Vec Ideal S2048x2560 .f32) (a2 : Vec Ideal S9728x2560 .fp8e4m3) (a3 : Vec Ideal S304x2560 .i8)
    (p : Fin 2048) (n : Fin 2560) : EReal :=
  a1 (ix2 p n) + ∑ k : Fin 9728, a0 (ix2 p k) * (a2 (ix2 k n) * scale (a3 (ix2 ⟨k.val / 32, by omega⟩ n)))

variable (m : (ℓ : Loc nD τ sig) → Buf (Elt Ideal) ℓ) (c : Dev nD)

/-- The activations. -/
abbrev A0 : Vec Ideal S2048x9728 .bf16 := m (c, Proc.tc.devRef main_arg0)
/-- The residual. -/
abbrev A1 : Vec Ideal S2048x2560 .f32 := m (c, Proc.tc.devRef main_arg1)
/-- The weight codes. -/
abbrev A2 : Vec Ideal S9728x2560 .fp8e4m3 := m (c, Proc.tc.devRef main_arg2)
/-- The weight exponents. -/
abbrev A3 : Vec Ideal S304x2560 .i8 := m (c, Proc.tc.devRef main_arg3)

/-- A point's activations, in the whole array. -/
theorem act_at (t : Fin cfg0.N) (p : Fin 2048) (k : Fin 512) (l : Fin 9728) (hl : l.val = 512 * (t.val % 19) + k.val) :
    act m c t (ix2 p k) = A0 m c (ix2 p l) := by
  unfold act
  blk_point [iblk, V, idx t]

/-- A point's residual, in the whole array. -/
theorem res_at (t : Fin cfg0.N) (p : Fin 2048) (n : Fin 1280) (j : Fin 2560) (hj : j.val = 1280 * (t.val / 19) + n.val) :
    res m c t (ix2 p n) = A1 m c (ix2 p j) := by
  unfold res
  blk_point [iblk, V, idx t]

/-- A point's scaled weights, in the whole arrays. -/
theorem wgt_at (t : Fin cfg0.N) (k : Fin 512) (n : Fin 1280) (l : Fin 9728) (hl : l.val = 512 * (t.val % 19) + k.val)
    (j : Fin 2560) (hj : j.val = 1280 * (t.val / 19) + n.val) :
    wgt m c t (ix2 k n) = (A2 m c (ix2 l j) * scale (A3 m c (ix2 ⟨l.val / 32, by omega⟩ j)) : EReal) := by
  unfold wgt scale
  rw [wide_at]
  blk_point [iblk, V, idx t]

/-- The array after the run. -/
theorem final : (dats m 0 c).arrAt 4 cfg0.N = fun y => value (A0 m c) (A1 m c) (A2 m c) (A3 m c) (y 0) (y 1) := by
  refine (dats m 0 c).arrAt_eq_of_covers 4 _ (by decide +kernel) fun t hf y => ?_
  blk_simp
  rw [after0_4]
  idx_vars y
  have ht : t.val % 19 = 18 := (flush0_4 t).mp hf
  have hN : t.val < 38 := lt_of_lt_of_eq t.isLt N_0
  have hy : 1280 * (t.val / 19) + y1.val < 2560 := by omega
  have e0 : (((View.whole main_v0).slice (win0_4.rect t)).emb (ix2 y0 y1) 0 : Fin 2048) = y0 := by
    apply Fin.ext
    blk_simp [idx t]
  have e1 : (((View.whole main_v0).slice (win0_4.rect t)).emb (ix2 y0 y1) 1 : Fin 2560) = ⟨1280 * (t.val / 19) + y1.val, hy⟩ := by
    apply Fin.ext
    blk_simp [idx t]
    exact congrArg (· + y1.val) (Nat.mul_comm _ _)
  rw [out_last m c t ht, res_at m c t y0 y1 ⟨_, hy⟩ rfl]
  unfold value
  simp only [e0, e1]
  refine congrArg _ ?_
  unfold term
  refine Fin.sum_mul_add_congr (fun s k hl => ?_) (by decide)
  have hd : (19 * (t.val / 19) + s.val) % 19 = s.val := by omega
  have hq : (19 * (t.val / 19) + s.val) / 19 = t.val / 19 := by omega
  dsimp only
  rw [act_at m c _ y0 k ⟨s.val * 512 + k.val, hl⟩ (by dsimp only; rw [hd]; omega),
    wgt_at m c _ k y1 ⟨s.val * 512 + k.val, hl⟩ (by dsimp only; rw [hd]; omega) ⟨_, hy⟩ (by dsimp only; rw [hq])]
  rfl

end Cert.DownIdeal.Hand

end
-- ==== Proof.DownClaim.lean ====
/- The last projection agrees with its reference. -/
module

public import proofs.«01_k».proof.Defs
public import proofs.«01_k».proof.Proof.DownFinal
public import proofs.«01_k».proof.Proof.Scale
public import proofs.«01_k».proof.Proof.Gen.DownRefIdeal.Value
public import proofs.«01_k».proof.Proof.Gen.Pre_down_scales_normal

@[expose] public section

set_option maxRecDepth 16384

noncomputable section

open Idealize.ShloMosaic Idealize.ShloMosaic.TcCoe Idealize.SL.Sem

namespace Cert.DownIdeal.Hand

open Cert.DownIdeal Cert.DownIdeal.Gen Cert.Hand

/-- The reference at an index: the scale it computes is two to the stored exponent less 127. -/
theorem ref_at (a0 : Vec Ideal S2048x9728 .bf16) (a1 : Vec Ideal S2048x2560 .f32) (a2 : Vec Ideal S9728x2560 .fp8e4m3) (a3 : Vec Ideal S304x2560 .i8)
    (p : Fin 2048) (n : Fin 2560) :
    Cert.DownRefIdeal.Gen.k0_pay1 (F := Ideal) a3 a2 a1 a0 (ix2 p n) = (a1 (ix2 p n) + ∑ k : Fin 9728, a0 (ix2 p k)
      * (a2 (ix2 k n) * (((2 : ℝ) ^ (((a3 (ix2 ⟨k.val / 32, by omega⟩ n) : BitVec 8).toNat : Int) - 127) : ℝ) : EReal)) : EReal) := by
  simp only [← exp2_word]
  pointwise [Cert.DownRefIdeal.Gen.k0_pay1]
  rfl

/-- The precondition at an index: the exponent is that of a normal number. -/
theorem pre_at (a0 : Vec Ideal S2048x9728 .bf16) (a1 : Vec Ideal S2048x2560 .f32) (a2 : Vec Ideal S9728x2560 .fp8e4m3) (a3 : Vec Ideal S304x2560 .i8)
    (h : Cert.Pre_down_scales_normal.fn (F := Ideal) a0 a1 a2 a3 = fun _ => 1#1) (k : Fin 304) (n : Fin 2560) :
    1 ≤ (a3 (ix2 k n) : BitVec 8).toNat ∧ (a3 (ix2 k n) : BitVec 8).toNat ≤ 254 := by
  have e := congrFun h (ix2 k n)
  pointwise [Cert.Pre_down_scales_normal.fn] at e
  exact normal_bits _ e

/-- Under the precondition the kernel's value is the reference's. -/
theorem value_eq (a0 : Vec Ideal S2048x9728 .bf16) (a1 : Vec Ideal S2048x2560 .f32) (a2 : Vec Ideal S9728x2560 .fp8e4m3) (a3 : Vec Ideal S304x2560 .i8)
    (h : Cert.Pre_down_scales_normal.fn (F := Ideal) a0 a1 a2 a3 = fun _ => 1#1) :
    (fun y : S2048x2560.Idx => value a0 a1 a2 a3 (y 0) (y 1)) = Cert.DownRefIdeal.Gen.k0_pay1 (F := Ideal) a3 a2 a1 a0 := by
  funext y
  idx_vars y
  rw [ref_at]
  unfold value scale
  refine congrArg _ (Finset.sum_congr rfl fun k _ => ?_)
  obtain ⟨h1, h2⟩ := pre_at a0 a1 a2 a3 h ⟨k.val / 32, by omega⟩ y1
  rw [← scale_word _ h1 h2]

/-- From memories that agree on the arguments, under the precondition, the kernel and its reference leave the same array. -/
theorem algebraic : Cert.algebraic_DownIdeal_DownRefIdeal_pre_down_scales_normal (hDownIdeal := Cert.DownIdeal.Gen.facts)
    (hDownRefIdeal := Cert.DownRefIdeal.Gen.facts) (hPre_down_scales_normal := Cert.Pre_down_scales_normal.Gen.facts) := by
  intro m g m' g' hpre hargs
  refine ⟨fun c => (dats m 0 c).arrAt 4 cfg0.N, Cert.DownIdeal.Value.run_blocks m g, ?_⟩
  refine (θ_run _ _ _).mono (fun r h c => ⟨(h c).1.trans ?_, (h c).2⟩) (Cert.DownRefIdeal.Value.run m' g')
  obtain ⟨e0, e1, e2, e3⟩ := hargs c
  have key := value_eq (A0 m c) (A1 m c) (A2 m c) (A3 m c) (hpre c)
  refine Eq.trans ?_ (key.symm.trans (final m c).symm)
  show Cert.DownRefIdeal.Gen.k0_pay1 _ _ _ _ = _
  rw [e0, e1, e2, e3]

end Cert.DownIdeal.Hand

end
-- ==== Proof.QuantDefs.lean ====
/- The quantiser of the kernel for one group of 32 values: its biased exponent, its scale, its codes and the value that the
   codes stand for, in the operations of the kernel. Shared by every call that quantises. -/
module

public import Idealize.ShloMosaic.Lib.Pointwise
public import Idealize.ShloMosaic.PureOps.Ideal

@[expose] public section

set_option maxRecDepth 16384

noncomputable section

open Idealize.ShloMosaic

namespace Cert.Hand

/-- The largest absolute value of a group, times `1/448`. -/
def amaxK (f : Fin 32 → EReal) : EReal :=
  Finset.fold max (Ideal.ofBits FTy.f32 4286578688#32) (fun i => (FloatOps.absf (F := Ideal) (φ := FTy.f32) (f i) : EReal)) Finset.univ
    * Ideal.ofBits FTy.f32 991054117#32

/-- The largest exponent field between 1 and 252 whose power of two does not exceed `v`, 0 if there is none. -/
def fieldK (v : EReal) : BitVec 32 :=
  FloatOps.fptosi (F := Ideal) (φ := FTy.f32) 32
    (Finset.fold max (Ideal.ofBits FTy.f32 4286578688#32)
      (fun x : Fin 252 =>
        if Ideal.ofBits FTy.f32 (IntOp.shli ArithUnit.vector (IntOp.addi (BitVec.ofNat 32 ↑x) 1#32) 23#32) ≤ v then
          (FloatOps.sitofp (F := Ideal) FTy.f32 (IntOp.addi (BitVec.ofNat 32 ↑x) 1#32) : EReal)
        else 0)
      Finset.univ : EReal)

/-- The biased exponent of a group's scale. -/
def expK (f : Fin 32 → EReal) : BitVec 32 :=
  Scalar.select (IntOp.cmpi CmpIPredicate.eq (fieldK (amaxK f)) 0#32) 127#32 (IntOp.addi (fieldK (amaxK f)) 1#32)

/-- The bits of the factor that a group is multiplied by. -/
def bitsK (f : Fin 32 → EReal) : BitVec 32 := IntOp.shli ArithUnit.vector (IntOp.subi 254#32 (expK f)) 23#32

/-- The code of a value `z` in a group `f`. -/
def codeK (f : Fin 32 → EReal) (z : EReal) : EReal :=
  min (Ideal.ofBits FTy.f32 1138753536#32) (max (Ideal.ofBits FTy.f32 3286237184#32) (z * Ideal.ofBits FTy.f32 (bitsK f)))

/-- The value that the code of `z` in a group `f` stands for. -/
def backK (f : Fin 32 → EReal) (z : EReal) : EReal :=
  codeK f z * Ideal.ofBits FTy.f32 (IntOp.subi (Scalar.shli 254#32 23#32) (bitsK f))

end Cert.Hand

end
-- ==== Proof.GuBlock.lean ====
/- The values of one grid point of the gate and up projection: widened weights, activations, groups. -/
module

public import proofs.«01_k».proof.Proof.Gen.GuIdeal.Value
public import proofs.«01_k».proof.Proof.Scale
public import proofs.«01_k».proof.Proof.QuantDefs
public import proofs.«01_k».proof.Proof.DownBlock
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem

namespace Cert.GuIdeal.Hand

open Cert.GuIdeal Cert.GuIdeal.Gen Cert.Hand

/-- The widened weights of one grid point: 512 columns of gate weights, then 512 columns of up weights, each code times
    the scale word of its group of 32 rows. -/
def wts (x1 : Vec Ideal S2560x512 .fp8e4m3) (x2 : Vec Ideal S80x512 .i8) (x3 : Vec Ideal S2560x512 .fp8e4m3) (x4 : Vec Ideal S80x512 .i8) :
    Vec Ideal S2560x1024 .bf16 := fun y =>
  if h : (y 1).val < 512 then
    (x1 (ix2 (y 0) (⟨(y 1).val, h⟩ : Fin 512)) * Ideal.ofBits FTy.f32 (IntOp.shli ArithUnit.vector (BitVec.setWidth 32 (x2 (ix2 (⟨(y 0).val / 32, by have := (y 0).isLt; change (y 0).val < 2560 at this; omega⟩ : Fin 80) (⟨(y 1).val, h⟩ : Fin 512)))) 23#32) : EReal)
  else
    (x3 (ix2 (y 0) (⟨(y 1).val - 512, by have := (y 1).isLt; change (y 1).val < 1024 at this; omega⟩ : Fin 512)) * Ideal.ofBits FTy.f32 (IntOp.shli ArithUnit.vector (BitVec.setWidth 32 (x4 (ix2 (⟨(y 0).val / 32, by have := (y 0).isLt; change (y 0).val < 2560 at this; omega⟩ : Fin 80) (⟨(y 1).val - 512, by have := (y 1).isLt; change (y 1).val < 1024 at this; omega⟩ : Fin 512)))) 23#32) : EReal)

/-- A gate weight. -/
theorem wts_lo (x1 : Vec Ideal S2560x512 .fp8e4m3) (x2 : Vec Ideal S80x512 .i8) (x3 : Vec Ideal S2560x512 .fp8e4m3) (x4 : Vec Ideal S80x512 .i8)
    (k : Fin 2560) (n : Fin 1024) (h : n.val < 512) : wts x1 x2 x3 x4 (ix2 k n) = (x1 (ix2 k (⟨n.val, h⟩ : Fin 512))
      * Ideal.ofBits FTy.f32 (IntOp.shli ArithUnit.vector (BitVec.setWidth 32 (x2 (ix2 (⟨k.val / 32, by omega⟩ : Fin 80) (⟨n.val, h⟩ : Fin 512)))) 23#32) : EReal) :=
  dif_pos h

/-- An up weight. -/
theorem wts_hi (x1 : Vec Ideal S2560x512 .fp8e4m3) (x2 : Vec Ideal S80x512 .i8) (x3 : Vec Ideal S2560x512 .fp8e4m3) (x4 : Vec Ideal S80x512 .i8)
    (k : Fin 2560) (n : Fin 1024) (h : ¬n.val < 512) : wts x1 x2 x3 x4 (ix2 k n) = (x3 (ix2 k (⟨n.val - 512, by omega⟩ : Fin 512))
      * Ideal.ofBits FTy.f32 (IntOp.shli ArithUnit.vector (BitVec.setWidth 32 (x4 (ix2 (⟨k.val / 32, by omega⟩ : Fin 80) (⟨n.val - 512, by omega⟩ : Fin 512)))) 23#32) : EReal) :=
  dif_neg h

/-- One activation: the silu of the product with gate column `a`, times the product with up column `b`. -/
def hval (x0 : Vec Ideal S2048x2560 .bf16) (w : Vec Ideal S2560x1024 .bf16) (p : Fin 2048) (a b : Fin 1024) : EReal :=
  Ideal.div (∑ k : Fin 2560, (x0 (ix2 p k) * w (ix2 k a) : EReal)) (1 + Ideal.exp (0 - ∑ k : Fin 2560, (x0 (ix2 p k) * w (ix2 k a) : EReal)))
    * ∑ k : Fin 2560, (x0 (ix2 p k) * w (ix2 k b) : EReal)

/-- The group of 32 activations of row `p` with number `g`. -/
def grp (x0 : Vec Ideal S2048x2560 .bf16) (w : Vec Ideal S2560x1024 .bf16) (p : Fin 2048) (g : Nat) (hg : g < 16) (i : Fin 32) : EReal :=
  hval x0 w p (⟨g * 32 + i.val, by omega⟩ : Fin 1024) (⟨512 + (g * 32 + i.val), by omega⟩ : Fin 1024)

/-- A group named by its columns is that group. -/
theorem grp_eq (x0 : Vec Ideal S2048x2560 .bf16) (w : Vec Ideal S2560x1024 .bf16) {p' : Fin 2048} {ga gb : Fin 32 → Fin 1024}
    (p : Fin 2048) (g : Nat) (hg : g < 16) (hp : p.val = p'.val) (ha : ∀ i, (ga i).val = g * 32 + i.val) (hb : ∀ i, (gb i).val = 512 + (g * 32 + i.val)) :
    (fun i => hval x0 w p' (ga i) (gb i)) = grp x0 w p g hg := by
  obtain rfl := Fin.ext hp
  funext i
  exact congr (congrArg (hval x0 w p) (Fin.ext (ha i))) (Fin.ext (hb i))

/-- Where the thresholds do not exceed the groups' values, for one chunk of four groups of columns. -/
def chunkMask (z : FVec Ideal S256x128 .f32) : IVec S252x4x256 1 :=
  cmpf .oge (broadcastTo S252x4x256 (shapeCast S1x4x256 (mulf (multiReduction .maximumf [1] S4x256 (shapeCast S4x32x256 (transpose S128x256 [1, 0] (absf z) transposes_S256x128_p1_0_S128x256) shapeCasts_S128x256_S4x32x256) 0xFF800000#32 reduces_S4x32x256_S4x256 (.inl rfl) rfl) (broadcast S4x256 (Scalar.ofBits .f32 0x3B124925#32))) shapeCasts_S4x256_S1x4x256) broadcasts_S1x4x256_S252x4x256)
    (bitcastToFloat .f32 (shli k0_pay35 (broadcast S252x4x256 23#32)))

/-- The exponents of one chunk. -/
def chunkExp (z : FVec Ideal S256x128 .f32) : IVec S4x256 32 := k0_pay37 (F := Ideal) k0_pay35 (chunkMask z)

/-- The codes of one chunk. -/
def chunkCode (z : FVec Ideal S256x128 .f32) : FVec Ideal S256x128 .fp8e4m3 := k0_pay39 (F := Ideal) z k0_pay35 (chunkMask z)

/-- What the codes of one chunk stand for. -/
def chunkBack (z : FVec Ideal S256x128 .f32) : FVec Ideal S256x128 .bf16 := k0_pay40 (F := Ideal) z k0_pay35 (chunkMask z)

/-- The group of 32 values of row `r` of a chunk with number `g`. -/
def chunkGrp (z : FVec Ideal S256x128 .f32) (r : Fin 256) (g : Fin 4) (i : Fin 32) : EReal := z (ix2 r (⟨g.val * 32 + i.val, by omega⟩ : Fin 128))

/-- An exponent of a chunk. -/
theorem chunkExp_at (z : FVec Ideal S256x128 .f32) (g : Fin 4) (r : Fin 256) : chunkExp z (ix2 g r) = expK (chunkGrp z r g) := by
  pointwise [chunkExp, k0_pay37, k0_pay35, chunkMask]
  rfl

/-- A code of a chunk. -/
theorem chunkCode_at (z : FVec Ideal S256x128 .f32) (r : Fin 256) (n : Fin 128) :
    chunkCode z (ix2 r n) = codeK (chunkGrp z r ⟨n.val / 32, by omega⟩) (z (ix2 r n)) := by
  pointwise [chunkCode, k0_pay37, k0_pay38, k0_pay39, k0_pay35, chunkMask]
  rfl

/-- What a code of a chunk stands for. -/
theorem chunkBack_at (z : FVec Ideal S256x128 .f32) (r : Fin 256) (n : Fin 128) :
    chunkBack z (ix2 r n) = backK (chunkGrp z r ⟨n.val / 32, by omega⟩) (z (ix2 r n)) := by
  pointwise [chunkBack, k0_pay37, k0_pay38, k0_pay39, k0_pay40, k0_pay35, chunkMask]
  rfl

/-- The activations of a block of 256 rows. -/
theorem hblk_at (xb : Vec Ideal S256x2560 .bf16) (w : Vec Ideal S2560x1024 .bf16) (r : Fin 256) (n : Fin 512) :
    k0_pay33 (F := Ideal) xb w (ix2 r n) = (Ideal.div (∑ k : Fin 2560, (xb (ix2 r k) * w (ix2 k (⟨n.val, by omega⟩ : Fin 1024)) : EReal)) (1 + Ideal.exp (0 - ∑ k : Fin 2560, (xb (ix2 r k) * w (ix2 k (⟨n.val, by omega⟩ : Fin 1024)) : EReal)))
      * ∑ k : Fin 2560, (xb (ix2 r k) * w (ix2 k (⟨512 + n.val, by omega⟩ : Fin 1024)) : EReal) : EReal) := by
  pointwise [k0_pay33]

/-- The codes of a block of 256 rows, from its activations. -/
def rowCodes (h : FVec Ideal S256x512 .f32) : FVec Ideal S256x512 .fp8e4m3 :=
  concatenate S256x512 1 [⟨S256x128, chunkCode (extractStridedSlice S256x128 ![0, 0] h slices_S256x512_o0_0_S256x128)⟩,
    ⟨S256x128, chunkCode (extractStridedSlice S256x128 ![0, 128] h slices_S256x512_o0_128_S256x128)⟩,
    ⟨S256x128, chunkCode (extractStridedSlice S256x128 ![0, 256] h slices_S256x512_o0_256_S256x128)⟩,
    ⟨S256x128, chunkCode (extractStridedSlice S256x128 ![0, 384] h slices_S256x512_o0_384_S256x128)⟩] concatenates_S256x128_S256x128_S256x128_S256x128_S256x512_d1

/-- What those codes stand for. -/
def rowBack (h : FVec Ideal S256x512 .f32) : FVec Ideal S256x512 .bf16 :=
  concatenate S256x512 1 [⟨S256x128, chunkBack (extractStridedSlice S256x128 ![0, 0] h slices_S256x512_o0_0_S256x128)⟩,
    ⟨S256x128, chunkBack (extractStridedSlice S256x128 ![0, 128] h slices_S256x512_o0_128_S256x128)⟩,
    ⟨S256x128, chunkBack (extractStridedSlice S256x128 ![0, 256] h slices_S256x512_o0_256_S256x128)⟩,
    ⟨S256x128, chunkBack (extractStridedSlice S256x128 ![0, 384] h slices_S256x512_o0_384_S256x128)⟩] concatenates_S256x128_S256x128_S256x128_S256x128_S256x512_d1

/-- Their exponent bytes. -/
def rowBytes (h : FVec Ideal S256x512 .f32) : IVec S1x16x256 8 :=
  k0_pay4 (chunkExp (extractStridedSlice S256x128 ![0, 0] h slices_S256x512_o0_0_S256x128))
    (chunkExp (extractStridedSlice S256x128 ![0, 128] h slices_S256x512_o0_128_S256x128))
    (chunkExp (extractStridedSlice S256x128 ![0, 256] h slices_S256x512_o0_256_S256x128))
    (chunkExp (extractStridedSlice S256x128 ![0, 384] h slices_S256x512_o0_384_S256x128))

/-- The group of 32 activations of row `r` of a block with number `g`. -/
def rowGrp (h : FVec Ideal S256x512 .f32) (r : Fin 256) (g : Fin 16) (i : Fin 32) : EReal := h (ix2 r (⟨g.val * 32 + i.val, by omega⟩ : Fin 512))

/-- A group of a chunk is a group of the block. -/
theorem chunkGrp_eq (h : FVec Ideal S256x512 .f32) (o : Nat) (ho) (r : Fin 256) (g : Fin 4) (g' : Fin 16) (hg : g'.val * 32 = o + g.val * 32) :
    chunkGrp (extractStridedSlice S256x128 ![0, o] h ho) r g = rowGrp h r g' := by
  funext i
  unfold chunkGrp rowGrp
  pointwise
  exact congrArg h (congrArg (ix2 r) (Fin.ext (by dsimp only <;> omega)))

/-- A code of a block of 256 rows. -/
theorem rowCodes_at (h : FVec Ideal S256x512 .f32) (r : Fin 256) (n : Fin 512) :
    rowCodes h (ix2 r n) = codeK (rowGrp h r ⟨n.val / 32, by omega⟩) (h (ix2 r n)) := by
  have key : ∀ (o : Nat) (ho) (g : Fin 4) (c : Fin 512), c.val = n.val → n.val / 32 * 32 = o + g.val * 32 →
      codeK (chunkGrp (extractStridedSlice S256x128 ![0, o] h ho) r g) (h (ix2 r c)) = codeK (rowGrp h r ⟨n.val / 32, by omega⟩) (h (ix2 r n)) := by
    intro o ho g c hc hg
    rw [chunkGrp_eq h o ho r g ⟨n.val / 32, by omega⟩ hg]
    obtain rfl := Fin.ext hc
    rfl
  unfold rowCodes
  pointwise [chunkCode_at]
  split_ifs <;> exact key _ _ _ _ (by dsimp only <;> omega) (by dsimp only <;> omega)

/-- What a code of a block of 256 rows stands for. -/
theorem rowBack_at (h : FVec Ideal S256x512 .f32) (r : Fin 256) (n : Fin 512) :
    rowBack h (ix2 r n) = backK (rowGrp h r ⟨n.val / 32, by omega⟩) (h (ix2 r n)) := by
  have key : ∀ (o : Nat) (ho) (g : Fin 4) (c : Fin 512), c.val = n.val → n.val / 32 * 32 = o + g.val * 32 →
      backK (chunkGrp (extractStridedSlice S256x128 ![0, o] h ho) r g) (h (ix2 r c)) = backK (rowGrp h r ⟨n.val / 32, by omega⟩) (h (ix2 r n)) := by
    intro o ho g c hc hg
    rw [chunkGrp_eq h o ho r g ⟨n.val / 32, by omega⟩ hg]
    obtain rfl := Fin.ext hc
    rfl
  unfold rowBack
  pointwise [chunkBack_at]
  split_ifs <;> exact key _ _ _ _ (by dsimp only <;> omega) (by dsimp only <;> omega)

/-- An exponent byte of a block of 256 rows. -/
theorem rowBytes_at (h : FVec Ideal S256x512 .f32) (a : Fin 1) (g : Fin 16) (r : Fin 256) :
    rowBytes h (ix3 a g r) = BitVec.setWidth 8 (expK (rowGrp h r g)) := by
  have key : ∀ (o : Nat) (ho) (g' : Fin 4), g.val * 32 = o + g'.val * 32 →
      BitVec.setWidth 8 (expK (chunkGrp (extractStridedSlice S256x128 ![0, o] h ho) r g')) = BitVec.setWidth 8 (expK (rowGrp h r g)) := by
    intro o ho g' hg
    rw [chunkGrp_eq h o ho r g' g hg]
  unfold rowBytes
  pointwise [k0_pay4, chunkExp_at]
  split_ifs <;> exact key _ _ _ (by dsimp only <;> omega)

/-- The activations of the rows from `r0` on. -/
theorem hld_at (x0 : Vec Ideal S2048x2560 .bf16) (w : Vec Ideal S2560x1024 .bf16) (r0 : Nat) (hr) (r : Fin 256) (n : Fin 512)
    (p : Fin 2048) (hp : p.val = r0 + r.val) :
    k0_pay33 (F := Ideal) (View.ld x0 (Rect.unit ![r0, 0] S256x2560.size hr)) w (ix2 r n)
      = hval x0 w p (⟨n.val, by omega⟩ : Fin 1024) (⟨512 + n.val, by omega⟩ : Fin 1024) := by
  have key : ∀ k : Fin 2560, View.ld x0 (Rect.unit ![r0, 0] S256x2560.size hr) (ix2 r k) = x0 (ix2 p k) := by
    intro k
    refine congrArg x0 (funext fun a => Fin.ext ?_)
    match a with
    | ⟨0, _⟩ => show r0 + 1 * r.val = p.val; omega
    | ⟨1, _⟩ => show 0 + 1 * k.val = k.val; omega
  rw [hblk_at]
  unfold hval
  simp only [key]

/-- A group of activations of the rows from `r0` on. -/
theorem rowGrp_ld (x0 : Vec Ideal S2048x2560 .bf16) (w : Vec Ideal S2560x1024 .bf16) (r0 : Nat) (hr) (r : Fin 256) (g : Fin 16)
    (p : Fin 2048) (hp : p.val = r0 + r.val) :
    rowGrp (k0_pay33 (F := Ideal) (View.ld x0 (Rect.unit ![r0, 0] S256x2560.size hr)) w) r g = grp x0 w p g.val g.isLt := by
  funext i
  exact hld_at x0 w r0 hr r ⟨g.val * 32 + i.val, by omega⟩ p hp

/-- The codes of the rows from `r0` on. -/
theorem codes_ld (xa : Vec Ideal S2048x2560 .bf16) (w : Vec Ideal S2560x1024 .bf16) (r0 : Nat) (hr) (x : Shape.Idx S256x512)
    (p : Fin 2048) (n : Fin 512) (hp : p.val = r0 + (x 0).val) (hn : n.val = (x 1).val) :
    rowCodes (k0_pay33 (F := Ideal) (View.ld xa (Rect.unit ![r0, 0] S256x2560.size hr)) w) x
      = codeK (grp xa w p (n.val / 32) (by omega)) (hval xa w p (⟨n.val, by omega⟩ : Fin 1024) (⟨512 + n.val, by omega⟩ : Fin 1024)) := by
  idx_vars x
  obtain rfl : n = x1 := Fin.ext hn
  rw [rowCodes_at, rowGrp_ld xa w r0 hr x0 ⟨n.val / 32, by omega⟩ p hp, hld_at xa w r0 hr x0 n p hp]

/-- What the codes of the rows from `r0` on stand for. -/
theorem back_ld (xa : Vec Ideal S2048x2560 .bf16) (w : Vec Ideal S2560x1024 .bf16) (r0 : Nat) (hr) (x : Shape.Idx S256x512)
    (p : Fin 2048) (n : Fin 512) (hp : p.val = r0 + (x 0).val) (hn : n.val = (x 1).val) :
    rowBack (k0_pay33 (F := Ideal) (View.ld xa (Rect.unit ![r0, 0] S256x2560.size hr)) w) x
      = backK (grp xa w p (n.val / 32) (by omega)) (hval xa w p (⟨n.val, by omega⟩ : Fin 1024) (⟨512 + n.val, by omega⟩ : Fin 1024)) := by
  idx_vars x
  obtain rfl : n = x1 := Fin.ext hn
  rw [rowBack_at, rowGrp_ld xa w r0 hr x0 ⟨n.val / 32, by omega⟩ p hp, hld_at xa w r0 hr x0 n p hp]

/-- The exponent bytes of the rows from `r0` on. -/
theorem bytes_ld (xa : Vec Ideal S2048x2560 .bf16) (w : Vec Ideal S2560x1024 .bf16) (r0 : Nat) (hr) (x : Shape.Idx S1x16x256)
    (p : Fin 2048) (g : Fin 16) (hp : p.val = r0 + (x 2).val) (hg : g.val = (x 1).val) :
    rowBytes (k0_pay33 (F := Ideal) (View.ld xa (Rect.unit ![r0, 0] S256x2560.size hr)) w) x
      = BitVec.setWidth 8 (expK (grp xa w p g.val g.isLt)) := by
  idx_vars x
  obtain rfl : g = x1 := Fin.ext hg
  rw [rowBytes_at, rowGrp_ld xa w r0 hr x2 g p hp]

end Cert.GuIdeal.Hand

end
-- ==== Proof.GuCodes.lean ====
/- The codes that one grid point of the gate and up projection writes. -/
module

public import proofs.«01_k».proof.Proof.Gen.GuIdeal.Value
public import proofs.«01_k».proof.Proof.Scale
public import proofs.«01_k».proof.Proof.QuantDefs
public import proofs.«01_k».proof.Proof.DownBlock
public import Idealize.ShloMosaic.Lib.Pipeline.ValueKit
public import Idealize.ShloMosaic.Lib.Pipeline.ReadBack
public import proofs.«01_k».proof.Proof.GuBlock

@[expose] public section

set_option maxRecDepth 16384
set_option maxHeartbeats 4000000

noncomputable section

open Idealize.ShloMosaic Idealize.ShloMosaic.TcCoe Idealize.SL.Sem

namespace Cert.GuIdeal.Hand

open Cert.GuIdeal Cert.GuIdeal.Gen Cert.Hand

/-- A block of codes holds the codes of its activations. -/
theorem codes_at (c : Dev nD) (t : Fin cfg0.N)
    (x0 : Vec Ideal S2048x2560 .bf16) (x1 : Vec Ideal S2560x512 .fp8e4m3) (x2 : Vec Ideal S80x512 .i8) (x3 : Vec Ideal S2560x512 .fp8e4m3) (x4 : Vec Ideal S80x512 .i8)
    (p : Fin 2048) (n : Fin 512) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) x0 x1 x2 x3 x4 (ix2 p n)
      = (codeK (grp x0 (wts x1 x2 x3 x4) p (n.val / 32) (by omega)) (hval x0 (wts x1 x2 x3 x4) p (⟨n.val, by omega⟩ : Fin 1024) (⟨512 + n.val, by omega⟩ : Fin 1024)) : EReal) := by
  frame_out
  simp (disch := decide) only [read_unread_whole, readCov_all]
  generalize hw : (View.canon (Val := Elt Ideal) [(⟨Rect.unit ![2304, 512] ![256, 512] inb_S2560x1024_S256x512_2304_512, _⟩ : View.Piece (Elt Ideal) S2560x1024 EltTy.bf16), _, _, _, _, _, _, _, _, _, _, _, _, _, _, _, _, _, _, _]) = w
  obtain rfl : w = wts x1 x2 x3 x4 := by
    rw [← hw]
    funext y
    idx_vars y
    canon_tiles x h
    all_goals (refine (show _ = (_ : EReal) from ?_); open_payloads)
    all_goals
      have hk : y0.val = _ := h0
      have hn : y1.val = _ := h1
      first
      | rw [wts_lo _ _ _ _ _ _ (by omega)]
      | rw [wts_hi _ _ _ _ _ _ (by omega)]
      pointwise
      blk_point
  clear hw
  generalize wts x1 x2 x3 x4 = w
  canon_tiles x h
  all_goals refine (show _ = (_ : EReal) from ?_)
  all_goals
    have hk : p.val = _ := ‹((ix2 p n) 0).val = _›
    have hn : n.val = _ := ‹((ix2 p n) 1).val = _›
    exact codes_ld x0 w _ _ x p n (by omega) (by omega)

end Cert.GuIdeal.Hand

end
-- ==== Proof.GuBack.lean ====
/- The values that the codes of one grid point of the gate and up projection stand for. -/
module

public import proofs.«01_k».proof.Proof.Gen.GuIdeal.Value
public import proofs.«01_k».proof.Proof.Scale
public import proofs.«01_k».proof.Proof.QuantDefs
public import proofs.«01_k».proof.Proof.DownBlock
public import Idealize.ShloMosaic.Lib.Pipeline.ValueKit
public import Idealize.ShloMosaic.Lib.Pipeline.ReadBack
public import proofs.«01_k».proof.Proof.GuBlock

@[expose] public section

set_option maxRecDepth 16384
set_option maxHeartbeats 4000000

noncomputable section

open Idealize.ShloMosaic Idealize.ShloMosaic.TcCoe Idealize.SL.Sem

namespace Cert.GuIdeal.Hand

open Cert.GuIdeal Cert.GuIdeal.Gen Cert.Hand

/-- A block of the widened result holds what the codes stand for. -/
theorem back_at (c : Dev nD) (t : Fin cfg0.N)
    (x0 : Vec Ideal S2048x2560 .bf16) (x1 : Vec Ideal S2560x512 .fp8e4m3) (x2 : Vec Ideal S80x512 .i8) (x3 : Vec Ideal S2560x512 .fp8e4m3) (x4 : Vec Ideal S80x512 .i8)
    (p : Fin 2048) (n : Fin 512) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) x0 x1 x2 x3 x4 (ix2 p n)
      = (backK (grp x0 (wts x1 x2 x3 x4) p (n.val / 32) (by omega)) (hval x0 (wts x1 x2 x3 x4) p (⟨n.val, by omega⟩ : Fin 1024) (⟨512 + n.val, by omega⟩ : Fin 1024)) : EReal) := by
  frame_out
  simp (disch := decide) only [read_unread_whole, readCov_all]
  generalize hw : (View.canon (Val := Elt Ideal) [(⟨Rect.unit ![2304, 512] ![256, 512] inb_S2560x1024_S256x512_2304_512, _⟩ : View.Piece (Elt Ideal) S2560x1024 EltTy.bf16), _, _, _, _, _, _, _, _, _, _, _, _, _, _, _, _, _, _, _]) = w
  obtain rfl : w = wts x1 x2 x3 x4 := by
    rw [← hw]
    funext y
    idx_vars y
    canon_tiles x h
    all_goals (refine (show _ = (_ : EReal) from ?_); open_payloads)
    all_goals
      have hk : y0.val = _ := h0
      have hn : y1.val = _ := h1
      first
      | rw [wts_lo _ _ _ _ _ _ (by omega)]
      | rw [wts_hi _ _ _ _ _ _ (by omega)]
      pointwise
      blk_point
  clear hw
  generalize wts x1 x2 x3 x4 = w
  canon_tiles x h
  all_goals refine (show _ = (_ : EReal) from ?_)
  all_goals
    have hk : p.val = _ := ‹((ix2 p n) 0).val = _›
    have hn : n.val = _ := ‹((ix2 p n) 1).val = _›
    exact back_ld x0 w _ _ x p n (by omega) (by omega)

end Cert.GuIdeal.Hand

end
-- ==== Proof.GuBytes.lean ====
/- The exponent bytes that one grid point of the gate and up projection writes. -/
module

public import proofs.«01_k».proof.Proof.Gen.GuIdeal.Value
public import proofs.«01_k».proof.Proof.Scale
public import proofs.«01_k».proof.Proof.QuantDefs
public import proofs.«01_k».proof.Proof.DownBlock
public import Idealize.ShloMosaic.Lib.Pipeline.ValueKit
public import Idealize.ShloMosaic.Lib.Pipeline.ReadBack
public import proofs.«01_k».proof.Proof.GuBlock

@[expose] public section

set_option maxRecDepth 16384
set_option maxHeartbeats 400000

noncomputable section

open Idealize.ShloMosaic Idealize.ShloMosaic.TcCoe Idealize.SL.Sem

namespace Cert.GuIdeal.Hand

open Cert.GuIdeal Cert.GuIdeal.Gen Cert.Hand

/-- What is stored for the rows from `r0` on, once it is known to be their exponent bytes. -/
theorem bytes_of (xa : Vec Ideal S2048x2560 .bf16) (w : Vec Ideal S2560x1024 .bf16) (r0 : Nat) (hr) (v : IVec S1x16x256 8)
    (hv : v = rowBytes (k0_pay33 (F := Ideal) (View.ld xa (Rect.unit ![r0, 0] S256x2560.size hr)) w)) (x : Shape.Idx S1x16x256)
    (b : Fin 2) (g : Fin 16) (r : Fin 1024) (hp : b.val * 1024 + r.val = r0 + (x 2).val) (hg : g.val = (x 1).val) :
    v x = BitVec.setWidth 8 (expK (grp xa w (⟨b.val * 1024 + r.val, by omega⟩ : Fin 2048) g.val g.isLt)) :=
  (congrFun hv x).trans (bytes_ld xa w r0 hr x _ g hp hg)

/-- A block of exponent bytes holds the exponents of its groups. -/
theorem bytes_at (c : Dev nD) (t : Fin cfg0.N)
    (x0 : Vec Ideal S2048x2560 .bf16) (x1 : Vec Ideal S2560x512 .fp8e4m3) (x2 : Vec Ideal S80x512 .i8) (x3 : Vec Ideal S2560x512 .fp8e4m3) (x4 : Vec Ideal S80x512 .i8)
    (b : Fin 2) (g : Fin 16) (r : Fin 1024) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) x0 x1 x2 x3 x4 (ix3 b g r)
      = (BitVec.setWidth 8 (expK (grp x0 (wts x1 x2 x3 x4) (⟨b.val * 1024 + r.val, by omega⟩ : Fin 2048) g.val g.isLt)) : BitVec 8) := by
  frame_out
  simp (disch := decide) only [read_unread_whole, readCov_all]
  generalize hw : (View.canon (Val := Elt Ideal) [(⟨Rect.unit ![2304, 512] ![256, 512] inb_S2560x1024_S256x512_2304_512, _⟩ : View.Piece (Elt Ideal) S2560x1024 EltTy.bf16), _, _, _, _, _, _, _, _, _, _, _, _, _, _, _, _, _, _, _]) = w
  obtain rfl : w = wts x1 x2 x3 x4 := by
    rw [← hw]
    funext y
    idx_vars y
    canon_tiles x h
    all_goals (refine (show _ = (_ : EReal) from ?_); open_payloads)
    all_goals
      have hk : y0.val = _ := h0
      have hn : y1.val = _ := h1
      first
      | rw [wts_lo _ _ _ _ _ _ (by omega)]
      | rw [wts_hi _ _ _ _ _ _ (by omega)]
      pointwise
      blk_point
  clear hw
  generalize wts x1 x2 x3 x4 = w
  canon_tiles x h
  all_goals refine (show _ = (_ : BitVec 8) from ?_)
  all_goals
    have hb : b.val = _ := ‹((ix3 b g r) 0).val = _›
    have hr : r.val = _ := ‹((ix3 b g r) 2).val = _›
  case piece0 => exact bytes_of x0 w 1792 inb_S2048x2560_S256x2560_1792_0 _ rfl x b g r (by omega) ‹_›
  case piece1 => exact bytes_of x0 w 1536 inb_S2048x2560_S256x2560_1536_0 _ rfl x b g r (by omega) ‹_›
  case piece2 => exact bytes_of x0 w 1280 inb_S2048x2560_S256x2560_1280_0 _ rfl x b g r (by omega) ‹_›
  case piece3 => exact bytes_of x0 w 1024 inb_S2048x2560_S256x2560_1024_0 _ rfl x b g r (by omega) ‹_›
  case piece4 => exact bytes_of x0 w 768 inb_S2048x2560_S256x2560_768_0 _ rfl x b g r (by omega) ‹_›
  case piece5 => exact bytes_of x0 w 512 inb_S2048x2560_S256x2560_512_0 _ rfl x b g r (by omega) ‹_›
  case piece6 => exact bytes_of x0 w 256 inb_S2048x2560_S256x2560_256_0 _ rfl x b g r (by omega) ‹_›
  case piece7 => exact bytes_of x0 w 0 inb_S2048x2560_S256x2560_0_0 _ rfl x b g r (by omega) ‹_›

end Cert.GuIdeal.Hand

end
-- ==== Proof.GuFinal.lean ====
/- The arrays the gate and up projection writes, each as one function of its argument arrays. -/
module

public import proofs.«01_k».proof.Proof.GuCodes
public import proofs.«01_k».proof.Proof.GuBack
public import proofs.«01_k».proof.Proof.GuBytes

@[expose] public section

set_option maxRecDepth 16384

noncomputable section

open Idealize.ShloMosaic Idealize.ShloMosaic.TcCoe Idealize.SL.Sem

namespace Cert.GuIdeal.Hand

open Cert.GuIdeal Cert.GuIdeal.Gen Cert.Hand

/-- The block each window holds at each grid point. -/
theorem idx : ∀ t : Fin cfg0.N, win0_0.index t = ![0, 0] ∧ win0_1.index t = ![0, t.val] ∧ win0_2.index t = ![0, t.val]
    ∧ win0_3.index t = ![0, 19 + t.val] ∧ win0_4.index t = ![0, 19 + t.val] ∧ win0_5.index t = ![0, t.val]
    ∧ win0_6.index t = ![0, t.val, 0] ∧ win0_7.index t = ![0, t.val] :=
  (by decide +kernel : ∀ t : Fin grid0.N, _)

/-- The scale the kernel reads off a stored exponent. -/
def scale (e : BitVec 8) : EReal := Ideal.ofBits FTy.f32 (IntOp.shli ArithUnit.vector (BitVec.setWidth 32 e) 23#32)

/-- The contraction of row `p` with the scaled weights of column `j`. -/
def lin (a0 : Vec Ideal S2048x2560 .bf16) (a1 : Vec Ideal S2560x19456 .fp8e4m3) (a2 : Vec Ideal S80x19456 .i8) (p : Fin 2048) (j : Fin 19456) : EReal :=
  ∑ k : Fin 2560, a0 (ix2 p k) * (a1 (ix2 k j) * scale (a2 (ix2 (⟨k.val / 32, by omega⟩ : Fin 80) j)))

/-- The activation of row `p` and column `n`: the silu of the gate times the up projection. -/
def hid (a0 : Vec Ideal S2048x2560 .bf16) (a1 : Vec Ideal S2560x19456 .fp8e4m3) (a2 : Vec Ideal S80x19456 .i8) (p : Fin 2048) (n : Fin 9728) : EReal :=
  Ideal.div (lin a0 a1 a2 p (⟨n.val, by omega⟩ : Fin 19456)) (1 + Ideal.exp (0 - lin a0 a1 a2 p (⟨n.val, by omega⟩ : Fin 19456)))
    * lin a0 a1 a2 p (⟨9728 + n.val, by omega⟩ : Fin 19456)

/-- The group of 32 activations of row `p` with number `g`. -/
def hgrp (a0 : Vec Ideal S2048x2560 .bf16) (a1 : Vec Ideal S2560x19456 .fp8e4m3) (a2 : Vec Ideal S80x19456 .i8) (p : Fin 2048) (g : Fin 304) (i : Fin 32) : EReal :=
  hid a0 a1 a2 p (⟨g.val * 32 + i.val, by omega⟩ : Fin 9728)

/-- The code array. -/
def codes (a0 : Vec Ideal S2048x2560 .bf16) (a1 : Vec Ideal S2560x19456 .fp8e4m3) (a2 : Vec Ideal S80x19456 .i8) (p : Fin 2048) (n : Fin 9728) : EReal :=
  codeK (hgrp a0 a1 a2 p (⟨n.val / 32, by omega⟩ : Fin 304)) (hid a0 a1 a2 p n)

/-- The array of what the codes stand for. -/
def back (a0 : Vec Ideal S2048x2560 .bf16) (a1 : Vec Ideal S2560x19456 .fp8e4m3) (a2 : Vec Ideal S80x19456 .i8) (p : Fin 2048) (n : Fin 9728) : EReal :=
  backK (hgrp a0 a1 a2 p (⟨n.val / 32, by omega⟩ : Fin 304)) (hid a0 a1 a2 p n)

/-- The array of exponent bytes: for each half of the rows, one line per group. -/
def bytes (a0 : Vec Ideal S2048x2560 .bf16) (a1 : Vec Ideal S2560x19456 .fp8e4m3) (a2 : Vec Ideal S80x19456 .i8) (b : Fin 2) (g : Fin 304) (r : Fin 1024) : BitVec 8 :=
  BitVec.setWidth 8 (expK (hgrp a0 a1 a2 (⟨b.val * 1024 + r.val, by omega⟩ : Fin 2048) g))

variable (m : (ℓ : Loc nD τ sig) → Buf (Elt Ideal) ℓ) (c : Dev nD)

/-- The activations. -/
abbrev A0 : Vec Ideal S2048x2560 .bf16 := m (c, Proc.tc.devRef main_arg0)
/-- The weight codes. -/
abbrev A1 : Vec Ideal S2560x19456 .fp8e4m3 := m (c, Proc.tc.devRef main_arg1)
/-- The weight exponents. -/
abbrev A2 : Vec Ideal S80x19456 .i8 := m (c, Proc.tc.devRef main_arg2)

/-- A point's activations. -/
def act (t : Fin cfg0.N) : Vec Ideal S2048x2560 .bf16 := iblk m c 0 t
/-- A point's gate weight codes. -/
def gate (t : Fin cfg0.N) : Vec Ideal S2560x512 .fp8e4m3 := iblk m c 1 t
/-- A point's gate weight exponents. -/
def gateE (t : Fin cfg0.N) : Vec Ideal S80x512 .i8 := iblk m c 2 t
/-- A point's up weight codes. -/
def up (t : Fin cfg0.N) : Vec Ideal S2560x512 .fp8e4m3 := iblk m c 3 t
/-- A point's up weight exponents. -/
def upE (t : Fin cfg0.N) : Vec Ideal S80x512 .i8 := iblk m c 4 t
/-- A point's widened weights. -/
def wgt (t : Fin cfg0.N) : Vec Ideal S2560x1024 .bf16 := wts (gate m c t) (gateE m c t) (up m c t) (upE m c t)

/-- A point's activations, in the whole array. -/
theorem act_at (t : Fin cfg0.N) (p : Fin 2048) (k : Fin 2560) : act m c t (ix2 p k) = A0 m c (ix2 p k) := by
  unfold act
  blk_point [iblk, V, idx t]

/-- A point's gate weights, in the whole arrays. -/
theorem gate_at (t : Fin cfg0.N) (k : Fin 2560) (n : Fin 1024) (h : n.val < 512) (j : Fin 19456) (hj : j.val = 512 * t.val + n.val) :
    wgt m c t (ix2 k n) = (A1 m c (ix2 k j) * scale (A2 m c (ix2 (⟨k.val / 32, by omega⟩ : Fin 80) j)) : EReal) := by
  unfold wgt scale
  rw [wts_lo _ _ _ _ _ _ h]
  unfold gate gateE
  blk_point [iblk, V, idx t]

/-- A point's up weights, in the whole arrays. -/
theorem up_at (t : Fin cfg0.N) (k : Fin 2560) (n : Fin 1024) (h : ¬n.val < 512) (j : Fin 19456) (hj : j.val + 512 = 9728 + 512 * t.val + n.val) :
    wgt m c t (ix2 k n) = (A1 m c (ix2 k j) * scale (A2 m c (ix2 (⟨k.val / 32, by omega⟩ : Fin 80) j)) : EReal) := by
  unfold wgt scale
  rw [wts_hi _ _ _ _ _ _ h]
  unfold up upE
  blk_point [iblk, V, idx t]

/-- A point's activation, in the whole arrays. -/
theorem hval_at (t : Fin cfg0.N) (p : Fin 2048) (a b : Fin 1024) (j : Fin 9728) (ha : a.val < 512) (hb : b.val = 512 + a.val)
    (hj : j.val = 512 * t.val + a.val) : hval (act m c t) (wgt m c t) p a b = hid (A0 m c) (A1 m c) (A2 m c) p j := by
  have hg : ∑ k : Fin 2560, (act m c t (ix2 p k) * wgt m c t (ix2 k a) : EReal) = lin (A0 m c) (A1 m c) (A2 m c) p (⟨j.val, by omega⟩ : Fin 19456) :=
    Finset.sum_congr rfl fun k _ => by rw [act_at, gate_at m c t k a ha ⟨j.val, by omega⟩ hj]
  have hu : ∑ k : Fin 2560, (act m c t (ix2 p k) * wgt m c t (ix2 k b) : EReal) = lin (A0 m c) (A1 m c) (A2 m c) p (⟨9728 + j.val, by omega⟩ : Fin 19456) :=
    Finset.sum_congr rfl fun k _ => by rw [act_at, up_at m c t k b (by omega) ⟨9728 + j.val, by omega⟩ (by dsimp only; omega)]
  unfold hval hid
  rw [hg, hu]

/-- A point's group, in the whole arrays. -/
theorem grp_at (t : Fin cfg0.N) (p : Fin 2048) (g : Nat) (hg : g < 16) (j : Fin 304) (hj : j.val = 16 * t.val + g) :
    grp (act m c t) (wgt m c t) p g hg = hgrp (A0 m c) (A1 m c) (A2 m c) p j := by
  funext i
  unfold grp hgrp
  exact hval_at m c t p _ _ _ (by dsimp only; omega) rfl (by dsimp only; omega)

/-- The codes one point leaves. -/
theorem out5_at (t : Fin cfg0.N) (p : Fin 2048) (n : Fin 512) (j : Fin 9728) (hj : j.val = 512 * t.val + n.val) :
    (outsAt0 m c t).1 (ix2 p n) = (codes (A0 m c) (A1 m c) (A2 m c) p j : EReal) := by
  have hN : t.val < 19 := lt_of_lt_of_eq t.isLt N_0
  simp only [outsAt0]
  refine (codes_at c t (act m c t) (gate m c t) (gateE m c t) (up m c t) (upE m c t) p n).trans ?_
  unfold codes
  exact congrArg₂ codeK (grp_at m c t p _ _ _ (by dsimp only; omega)) (hval_at m c t p _ _ _ n.isLt rfl hj)

/-- What the codes one point leaves stand for. -/
theorem out7_at (t : Fin cfg0.N) (p : Fin 2048) (n : Fin 512) (j : Fin 9728) (hj : j.val = 512 * t.val + n.val) :
    (outsAt0 m c t).2.2 (ix2 p n) = (back (A0 m c) (A1 m c) (A2 m c) p j : EReal) := by
  have hN : t.val < 19 := lt_of_lt_of_eq t.isLt N_0
  simp only [outsAt0]
  refine (back_at c t (act m c t) (gate m c t) (gateE m c t) (up m c t) (upE m c t) p n).trans ?_
  unfold back
  exact congrArg₂ backK (grp_at m c t p _ _ _ (by dsimp only; omega)) (hval_at m c t p _ _ _ n.isLt rfl hj)

/-- The exponent bytes one point leaves. -/
theorem out6_at (t : Fin cfg0.N) (b : Fin 2) (g : Fin 16) (r : Fin 1024) (j : Fin 304) (hj : j.val = 16 * t.val + g.val) :
    (outsAt0 m c t).2.1 (ix3 b g r) = bytes (A0 m c) (A1 m c) (A2 m c) b j r := by
  simp only [outsAt0]
  refine (bytes_at c t (act m c t) (gate m c t) (gateE m c t) (up m c t) (upE m c t) b g r).trans ?_
  unfold bytes
  exact congrArg (fun f => BitVec.setWidth 8 (expK f)) (grp_at m c t _ _ _ _ hj)

/-- The code array after the run. -/
theorem final5 : (dats m 0 c).arrAt 5 cfg0.N = fun y => codes (A0 m c) (A1 m c) (A2 m c) (y 0) (y 1) := by
  refine (dats m 0 c).arrAt_eq_of_covers 5 _ (by decide +kernel) fun t hf y => ?_
  blk_simp
  rw [after0_5]
  idx_vars y
  have hN : t.val < 19 := lt_of_lt_of_eq t.isLt N_0
  have hy : 512 * t.val + y1.val < 9728 := by omega
  have e0 : (((View.whole main_v0_0).slice (win0_5.rect t)).emb (ix2 y0 y1) 0 : Fin 2048) = y0 := by
    apply Fin.ext
    blk_simp [idx t]
  have e1 : (((View.whole main_v0_0).slice (win0_5.rect t)).emb (ix2 y0 y1) 1 : Fin 9728) = (⟨512 * t.val + y1.val, hy⟩ : Fin 9728) := by
    apply Fin.ext
    blk_simp [idx t]
    exact congrArg (· + y1.val) (Nat.mul_comm _ _)
  simp only [e0, e1]
  exact out5_at m c t y0 y1 _ rfl

/-- The array of what the codes stand for, after the run. -/
theorem final7 : (dats m 0 c).arrAt 7 cfg0.N = fun y => back (A0 m c) (A1 m c) (A2 m c) (y 0) (y 1) := by
  refine (dats m 0 c).arrAt_eq_of_covers 7 _ (by decide +kernel) fun t hf y => ?_
  blk_simp
  rw [after0_7]
  idx_vars y
  have hN : t.val < 19 := lt_of_lt_of_eq t.isLt N_0
  have hy : 512 * t.val + y1.val < 9728 := by omega
  have e0 : (((View.whole main_v0_2).slice (win0_7.rect t)).emb (ix2 y0 y1) 0 : Fin 2048) = y0 := by
    apply Fin.ext
    blk_simp [idx t]
  have e1 : (((View.whole main_v0_2).slice (win0_7.rect t)).emb (ix2 y0 y1) 1 : Fin 9728) = (⟨512 * t.val + y1.val, hy⟩ : Fin 9728) := by
    apply Fin.ext
    blk_simp [idx t]
    exact congrArg (· + y1.val) (Nat.mul_comm _ _)
  simp only [e0, e1]
  exact out7_at m c t y0 y1 _ rfl

/-- The array of exponent bytes after the run. -/
theorem final6 : (dats m 0 c).arrAt 6 cfg0.N = fun y => bytes (A0 m c) (A1 m c) (A2 m c) (y 0) (y 1) (y 2) := by
  refine (dats m 0 c).arrAt_eq_of_covers 6 _ (by decide +kernel) fun t hf y => ?_
  blk_simp
  rw [after0_6]
  idx_vars y
  have hN : t.val < 19 := lt_of_lt_of_eq t.isLt N_0
  have hy : 16 * t.val + y1.val < 304 := by omega
  have e0 : (((View.whole main_v0_1).slice (win0_6.rect t)).emb (ix3 y0 y1 y2) 0 : Fin 2) = y0 := by
    apply Fin.ext
    blk_simp [idx t]
  have e1 : (((View.whole main_v0_1).slice (win0_6.rect t)).emb (ix3 y0 y1 y2) 1 : Fin 304) = (⟨16 * t.val + y1.val, hy⟩ : Fin 304) := by
    apply Fin.ext
    blk_simp [idx t]
    exact congrArg (· + y1.val) (Nat.mul_comm _ _)
  have e2 : (((View.whole main_v0_1).slice (win0_6.rect t)).emb (ix3 y0 y1 y2) 2 : Fin 1024) = y2 := by
    apply Fin.ext
    blk_simp [idx t]
  simp only [e0, e1, e2]
  exact out6_at m c t y0 y1 y2 _ rfl

end Cert.GuIdeal.Hand

end
-- ==== Proof.Quant.lean ====
/- The exponent of a group as the kernel finds it, by comparing with every power of two, and as the reference computes it, by
   the floor of a logarithm, are one; so are the scales and the bytes that follow from it. -/
module

public import proofs.«01_k».proof.Proof.QuantDefs
public import proofs.«01_k».proof.Proof.Scale

@[expose] public section

set_option maxRecDepth 16384

noncomputable section

open Idealize.ShloMosaic

namespace Cert.Hand

/-- The exponent of a group as the reference computes it from `v`, the largest absolute value times `1/448`. -/
def expR (v : EReal) : EReal :=
  if v < Ideal.ofBits FTy.f32 8388608#32 then 0
  else min (Ideal.liftRound Int.floor (Ideal.div (Ideal.log v) (Ideal.log (Ideal.ofBits FTy.f32 1073741824#32))) + 1)
    (Ideal.ofBits FTy.f32 1123811328#32)

/-- The words that the kernel compares with and counts by. -/
theorem field_words : ∀ x : Fin 252,
    IntOp.shli ArithUnit.vector (IntOp.addi (BitVec.ofNat 32 ↑x) 1#32) 23#32 = IntOp.shli ArithUnit.vector (BitVec.setWidth 32 (BitVec.ofNat 8 (x.val + 1))) 23#32
    ∧ (BitVec.ofNat 8 (x.val + 1)).toNat = x.val + 1
    ∧ (IntOp.addi (BitVec.ofNat 32 ↑x) 1#32).toInt = (x.val : Int) + 1 := by
  decide +kernel

/-- One term of the kernel's maximum. -/
theorem field_term (v : EReal) (x : Fin 252) :
    (if Ideal.ofBits FTy.f32 (IntOp.shli ArithUnit.vector (IntOp.addi (BitVec.ofNat 32 ↑x) 1#32) 23#32) ≤ v then
          (FloatOps.sitofp (F := Ideal) FTy.f32 (IntOp.addi (BitVec.ofNat 32 ↑x) 1#32) : EReal)
        else 0)
      = if (((2 : ℝ) ^ ((x.val : Int) + 1 - 127) : ℝ) : EReal) ≤ v then (((x.val : ℝ) + 1 : ℝ) : EReal) else 0 := by
  obtain ⟨a, b, d⟩ := field_words x
  rw [a, scale_word _ (by omega) (by omega), b]
  show (if _ then ((((IntOp.addi (BitVec.ofNat 32 ↑x) 1#32).toInt : Int) : ℝ) : EReal) else 0) = _
  rw [d]
  push_cast
  rfl

theorem ofBits_ninf : Ideal.ofBits FTy.f32 4286578688#32 = ⊥ := by
  simp [Ideal.ofBits, Ideal.ieee]

theorem ofBits_min : Ideal.ofBits FTy.f32 8388608#32 = (((2 : ℝ) ^ (-126 : Int) : ℝ) : EReal) := by
  have h := scale_word 1#8 (by decide) (by decide)
  have e : IntOp.shli ArithUnit.vector (BitVec.setWidth 32 1#8) 23#32 = 8388608#32 := by decide +kernel
  rw [e] at h
  rw [h]
  norm_num

theorem ofBits_two : Ideal.ofBits FTy.f32 1073741824#32 = ((2 : ℝ) : EReal) := by
  have h := scale_word 128#8 (by decide) (by decide)
  have e : IntOp.shli ArithUnit.vector (BitVec.setWidth 32 128#8) 23#32 = 1073741824#32 := by decide +kernel
  rw [e] at h
  rw [h]
  norm_num

theorem ofBits_126 : Ideal.ofBits FTy.f32 1123811328#32 = ((126 : ℝ) : EReal) := by
  simp [Ideal.ofBits, Ideal.ieee]
  rw [← EReal.coe_mul]
  norm_num

/-- If `b` is the largest field whose power of two does not exceed `v`, or 0 if there is none, the kernel finds `b`. -/
theorem fieldK_eq (v : EReal) (b : Nat) (hb : b ≤ 252) (h1 : 1 ≤ b → (((2 : ℝ) ^ ((b : Int) - 127) : ℝ) : EReal) ≤ v)
    (h2 : ∀ c : Nat, b < c → c ≤ 252 → v < (((2 : ℝ) ^ ((c : Int) - 127) : ℝ) : EReal)) : fieldK v = BitVec.ofNat 32 b := by
  unfold fieldK
  simp only [field_term, ofBits_ninf]
  have hm : Finset.fold max ⊥ (fun x : Fin 252 => if (((2 : ℝ) ^ ((x.val : Int) + 1 - 127) : ℝ) : EReal) ≤ v then (((x.val : ℝ) + 1 : ℝ) : EReal) else 0)
      Finset.univ = (((b : ℝ)) : EReal) := by
    apply le_antisymm
    · rw [Finset.fold_max_le]
      refine ⟨bot_le, fun x _ => ?_⟩
      split_ifs with h
      · by_contra hc
        have hlt : b < x.val + 1 := by
          by_contra hn
          apply hc
          rw [EReal.coe_le_coe_iff]
          exact_mod_cast (by omega : x.val + 1 ≤ b)
        have := h2 (x.val + 1) hlt (by omega)
        push_cast at this
        exact absurd h (not_le.mpr this)
      · exact_mod_cast Nat.zero_le b
    · rw [Finset.le_fold_max]
      right
      rcases Nat.eq_zero_or_pos b with h0 | hp
      · refine ⟨0, Finset.mem_univ _, ?_⟩
        subst h0
        split_ifs
        · rw [EReal.coe_le_coe_iff]
          norm_num
        · norm_num
      · refine ⟨⟨b - 1, by omega⟩, Finset.mem_univ _, ?_⟩
        have e : ((b - 1 : Nat) : Int) + 1 - 127 = (b : Int) - 127 := by omega
        have e' : ((b - 1 : Nat) : ℝ) + 1 = b := by exact_mod_cast (by omega : b - 1 + 1 = b)
        show _ ≤ if (((2 : ℝ) ^ (((b - 1 : Nat) : Int) + 1 - 127) : ℝ) : EReal) ≤ v then ((((b - 1 : Nat) : ℝ) + 1 : ℝ) : EReal) else 0
        rw [e, e', if_pos (h1 hp)]
  rw [hm]
  show Ideal.fptosi 32 _ = _
  unfold Ideal.fptosi
  rw [Ideal.toIntClamped_coe, if_pos (Nat.cast_nonneg b), Int.floor_natCast]
  have e : max (-((2 ^ (32 - 1) : Nat) : Int)) (min (((2 ^ (32 - 1) : Nat) : Int) - 1) (b : Int)) = (b : Int) := by
    norm_num
    omega
  rw [e]
  exact BitVec.ofInt_natCast 32 b

/-- The exponent that the kernel makes of its field. -/
theorem exp_word : ∀ b : Fin 253, Scalar.select (IntOp.cmpi CmpIPredicate.eq (BitVec.ofNat 32 b.val) 0#32) 127#32 (IntOp.addi (BitVec.ofNat 32 b.val) 1#32)
    = BitVec.ofNat 32 (if b.val = 0 then 127 else b.val + 1) := by
  decide +kernel

/-- The reference's exponent of a value between two powers of two. -/
theorem expR_eq (v : EReal) (b : Nat) (hb1 : 1 ≤ b) (hb : b ≤ 252) (h1 : (((2 : ℝ) ^ ((b : Int) - 127) : ℝ) : EReal) ≤ v)
    (h2 : ∀ c : Nat, b < c → c ≤ 252 → v < (((2 : ℝ) ^ ((c : Int) - 127) : ℝ) : EReal)) : expR v = ((((b : Int) - 126 : Int) : ℝ) : EReal) := by
  have hlog : (0 : ℝ) < Real.log 2 := Real.log_pos (by norm_num)
  have hmin : ¬ v < (((2 : ℝ) ^ (-126 : Int) : ℝ) : EReal) := by
    refine not_lt.mpr (le_trans ?_ h1)
    rw [EReal.coe_le_coe_iff]
    exact zpow_le_zpow_right₀ (by norm_num) (by omega)
  have hlog2 : Ideal.log ((2 : ℝ) : EReal) = ((Real.log 2 : ℝ) : EReal) := by
    show (if (2 : ℝ) ≤ 0 then ⊥ else ((Real.log 2 : ℝ) : EReal)) = _
    rw [if_neg (by norm_num)]
  unfold expR
  rw [ofBits_min, ofBits_two, ofBits_126, if_neg hmin, hlog2, Ideal.div_coe hlog.ne']
  induction v using EReal.rec with
  | bot => exact absurd (le_bot_iff.mp h1) (EReal.coe_ne_bot _)
  | top =>
    have hb' : b = 252 := by
      by_contra hne
      exact absurd (h2 252 (by omega) (le_refl _)) (not_lt.mpr le_top)
    subst hb'
    show min (Ideal.liftRound Int.floor (⊤ * _) + 1) _ = _
    rw [EReal.top_mul_coe_of_pos (by positivity), Ideal.liftRound_top, EReal.top_add_of_ne_bot (show (1 : EReal) ≠ ⊥ from EReal.coe_ne_bot 1), min_eq_right le_top]
    norm_num
  | coe r =>
    rw [EReal.coe_le_coe_iff] at h1
    have hr : 0 < r := lt_of_lt_of_le (by positivity) h1
    have hl : Ideal.log ((r : ℝ) : EReal) = ((Real.log r : ℝ) : EReal) := by
      show (if r ≤ 0 then ⊥ else ((Real.log r : ℝ) : EReal)) = _
      rw [if_neg (not_le.mpr hr)]
    rw [hl, ← EReal.coe_mul, Ideal.liftRound_coe, ← EReal.coe_one, ← EReal.coe_add]
    generalize hL : Real.log r * (1 / Real.log 2) = L
    have hL' : Real.log r = L * Real.log 2 := by
      rw [← hL]
      field_simp
    have hlo : ((b : Int) - 127 : Int) ≤ ⌊L⌋ := by
      rw [Int.le_floor]
      have := Real.log_le_log (by positivity) h1
      rw [Real.log_zpow, hL'] at this
      exact le_of_mul_le_mul_right this hlog
    by_cases hbt : b = 252
    · subst hbt
      have h125 : (125 : ℝ) ≤ (⌊L⌋ : ℝ) := by exact_mod_cast hlo
      rw [min_eq_right (EReal.coe_le_coe_iff.mpr (by linarith))]
      norm_num
    · have hhi : ⌊L⌋ < (b : Int) - 126 := by
        rw [Int.floor_lt]
        have := h2 (b + 1) (by omega) (by omega)
        rw [EReal.coe_lt_coe_iff] at this
        have e : (((b + 1 : Nat) : Int) - 127) = (b : Int) - 126 := by push_cast; ring
        rw [e] at this
        have := Real.log_lt_log hr this
        rw [Real.log_zpow, hL'] at this
        exact lt_of_mul_lt_mul_right this hlog.le
      have hf : ⌊L⌋ = (b : Int) - 127 := by omega
      rw [hf, min_eq_left]
      · congr 1
        push_cast
        ring
      · rw [EReal.coe_le_coe_iff]
        have : (b : ℝ) ≤ 252 := by exact_mod_cast hb
        push_cast
        linarith

/-- The kernel's exponent lies between 2 and 253, and the reference's is that of the kernel. -/
theorem exp_eq (v : EReal) : ∃ e : Nat, 2 ≤ e ∧ e ≤ 253
    ∧ Scalar.select (IntOp.cmpi CmpIPredicate.eq (fieldK v) 0#32) 127#32 (IntOp.addi (fieldK v) 1#32) = BitVec.ofNat 32 e
    ∧ expR v = ((((e : Int) - 127 : Int) : ℝ) : EReal) := by
  classical
  by_cases hv : v < (((2 : ℝ) ^ (-126 : Int) : ℝ) : EReal)
  · refine ⟨127, by norm_num, by norm_num, ?_, ?_⟩
    · rw [fieldK_eq v 0 (by norm_num) (by omega) fun c hc hc' => lt_of_lt_of_le hv ?_]
      · exact exp_word 0
      · rw [EReal.coe_le_coe_iff]
        exact zpow_le_zpow_right₀ (by norm_num) (by omega)
    · unfold expR
      rw [ofBits_min, if_pos hv]
      norm_num
  · let P : Nat → Prop := fun b => (((2 : ℝ) ^ ((b : Int) - 127) : ℝ) : EReal) ≤ v
    have hP1 : P 1 := not_lt.mp hv
    have hle : 1 ≤ Nat.findGreatest P 252 := Nat.le_findGreatest (by norm_num) hP1
    have hsp : P (Nat.findGreatest P 252) := Nat.findGreatest_spec (by norm_num) hP1
    have hub : Nat.findGreatest P 252 ≤ 252 := Nat.findGreatest_le 252
    have hgr : ∀ c : Nat, Nat.findGreatest P 252 < c → c ≤ 252 → v < (((2 : ℝ) ^ ((c : Int) - 127) : ℝ) : EReal) :=
      fun c h h' => not_le.mp (Nat.findGreatest_is_greatest h h')
    generalize Nat.findGreatest P 252 = b at hle hsp hub hgr
    refine ⟨b + 1, by omega, by omega, ?_, ?_⟩
    · rw [fieldK_eq v b hub (fun _ => hsp) hgr]
      have := exp_word ⟨b, by omega⟩
      rwa [if_neg (show ¬ b = 0 by omega)] at this
    · rw [expR_eq v b hle hub hsp hgr]
      congr 2
      push_cast
      ring

/-- The words that follow from an exponent between 2 and 253. -/
theorem words : ∀ x : Fin 252,
    IntOp.shli ArithUnit.vector (IntOp.subi 254#32 (BitVec.ofNat 32 (x.val + 2))) 23#32 = IntOp.shli ArithUnit.vector (BitVec.setWidth 32 (BitVec.ofNat 8 (252 - x.val))) 23#32
    ∧ (BitVec.ofNat 8 (252 - x.val)).toNat = 252 - x.val
    ∧ IntOp.subi (Scalar.shli 254#32 23#32) (IntOp.shli ArithUnit.vector (IntOp.subi 254#32 (BitVec.ofNat 32 (x.val + 2))) 23#32)
      = IntOp.shli ArithUnit.vector (BitVec.setWidth 32 (BitVec.ofNat 8 (x.val + 2))) 23#32
    ∧ (BitVec.ofNat 8 (x.val + 2)).toNat = x.val + 2
    ∧ BitVec.setWidth 8 (IntOp.addi (BitVec.ofInt 32 ((x.val : Int) + 2 - 127)) 127#32) = BitVec.setWidth 8 (BitVec.ofNat 32 (x.val + 2)) := by
  decide +kernel

/-- Two to a whole power. -/
theorem exp2_int (k : Int) : Ideal.exp2 (((k : Int) : ℝ) : EReal) = (((2 : ℝ) ^ k : ℝ) : EReal) := by
  show ((Real.rpow 2 _ : ℝ) : EReal) = _
  rw [Real.rpow_eq_pow, Real.rpow_intCast]

/-- The kernel's factor is the reference's. -/
theorem scale_eq (f : Fin 32 → EReal) : Ideal.ofBits FTy.f32 (bitsK f) = Ideal.exp2 (0 - expR (amaxK f)) := by
  obtain ⟨e, h1, h2, h3, h4⟩ := exp_eq (amaxK f)
  obtain ⟨x, rfl⟩ : ∃ x, e = x + 2 := ⟨e - 2, by omega⟩
  obtain ⟨a, b, -, -, -⟩ := words ⟨x, by omega⟩
  unfold bitsK expK
  rw [h3, h4]
  dsimp only at a b
  rw [a, scale_word _ (by omega) (by omega), b, ← EReal.coe_zero, ← EReal.coe_sub, zero_sub, ← Int.cast_neg, exp2_int]
  congr 2
  omega

/-- The kernel's factor back is the reference's. -/
theorem back_scale_eq (f : Fin 32 → EReal) :
    Ideal.ofBits FTy.f32 (IntOp.subi (Scalar.shli 254#32 23#32) (bitsK f)) = Ideal.exp2 (expR (amaxK f)) := by
  obtain ⟨e, h1, h2, h3, h4⟩ := exp_eq (amaxK f)
  obtain ⟨x, rfl⟩ : ∃ x, e = x + 2 := ⟨e - 2, by omega⟩
  obtain ⟨-, -, a, b, -⟩ := words ⟨x, by omega⟩
  unfold bitsK expK
  rw [h3, h4]
  dsimp only at a b
  rw [a, scale_word _ (by omega) (by omega), b, exp2_int]

/-- The kernel's exponent byte is the reference's. -/
theorem byte_scale_eq (f : Fin 32 → EReal) :
    BitVec.setWidth 8 (expK f) = BitVec.setWidth 8 (IntOp.addi (FloatOps.fptosi (F := Ideal) (φ := FTy.f32) 32 (expR (amaxK f) : EReal)) 127#32) := by
  obtain ⟨e, h1, h2, h3, h4⟩ := exp_eq (amaxK f)
  obtain ⟨x, rfl⟩ : ∃ x, e = x + 2 := ⟨e - 2, by omega⟩
  obtain ⟨-, -, -, -, a⟩ := words ⟨x, by omega⟩
  unfold expK
  rw [h3, h4]
  dsimp only at a
  rw [← a]
  have e : FloatOps.fptosi (F := Ideal) (φ := FTy.f32) 32 ((((((x + 2 : Nat) : Int) - 127 : Int) : ℝ)) : EReal) = BitVec.ofInt 32 ((x : Int) + 2 - 127) := by
    show BitVec.ofInt 32 (max _ (min _ (if 0 ≤ ((((x + 2 : Nat) : Int) - 127 : Int) : ℝ) then ⌊((((x + 2 : Nat) : Int) - 127 : Int) : ℝ)⌋ else ⌈((((x + 2 : Nat) : Int) - 127 : Int) : ℝ)⌉))) = _
    rw [Int.floor_intCast, Int.ceil_intCast, ite_self]
    congr 1
    norm_num
    omega
  rw [e]

end Cert.Hand

end
-- ==== Proof.GuRef.lean ====
/- The exponents and scaled activations of the reference of the gate and up projection, as functions of its activations. -/
module

public import proofs.«01_k».proof.Proof.Quant
public import proofs.«01_k».proof.Proof.Gen.GuRefIdeal.Value
public import Idealize.ShloMosaic.Lib.Pipeline.ValueKit

@[expose] public section

set_option maxRecDepth 16384

noncomputable section

open Idealize.ShloMosaic Idealize.ShloMosaic.TcCoe Idealize.SL.Sem

namespace Cert.GuRefIdeal.Hand

open Cert.GuRefIdeal Cert.GuRefIdeal.Gen Cert.Hand

/-- The largest magnitude of each group of `h`. -/
def magOf (h : FVec Ideal S2048x304x32 .f32) : FVec Ideal S2048x304 .f32 :=
  multiReduction .maximumf [2] S2048x304 (absf h) 0xFF800000#32 reduces_S2048x304x32_S2048x304 (.inl rfl) rfl

/-- The largest magnitude of each group, over 448. -/
def amaxOf (v22 : FVec Ideal S2048x304 .f32) : FVec Ideal S2048x304 .f32 :=
  have cst_6 : Ideal .f32 := Scalar.ofBits .f32 0x3B124925#32
  have v23 : FVec Ideal S2048x304 .f32 := broadcast S2048x304 cst_6
  have v24 : FVec Ideal S2048x304 .f32 := mulf v22 v23
  v24

/-- The exponents of groups whose largest magnitudes over 448 are `v24`. -/
def expOf (v24 : FVec Ideal S2048x304 .f32) : FVec Ideal S2048x304 .f32 :=
  have v25 : FVec Ideal S2048x304 .f32 := log v24
  have cst_7 : Ideal .f32 := Scalar.ofBits .f32 0x40000000#32
  have v26 : Ideal .f32 := Scalar.log cst_7
  have v27 : FVec Ideal S2048x304 .f32 := broadcast S2048x304 v26
  have v28 : FVec Ideal S2048x304 .f32 := divf v25 v27
  have cst_8 : Ideal .f32 := Scalar.ofBits .f32 0x00800000#32
  have v29 : FVec Ideal S2048x304 .f32 := broadcast S2048x304 cst_8
  have v30 : IVec S2048x304 1 := cmpf .olt v24 v29
  have v31 : FVec Ideal S2048x304 .f32 := floor v28
  have cst_9 : Ideal .f32 := Scalar.ofBits .f32 0x3F800000#32
  have v32 : FVec Ideal S2048x304 .f32 := broadcast S2048x304 cst_9
  have v33 : FVec Ideal S2048x304 .f32 := addf v31 v32
  have cst_10 : Ideal .f32 := Scalar.ofBits .f32 0x42FC0000#32
  have v34 : FVec Ideal S2048x304 .f32 := broadcast S2048x304 cst_10
  have v35 : FVec Ideal S2048x304 .f32 := minimumf v33 v34
  have cst_11 : Ideal .f32 := Scalar.ofBits .f32 0x00000000#32
  have v36 : FVec Ideal S2048x304 .f32 := broadcast S2048x304 cst_11
  have v37 : FVec Ideal S2048x304 .f32 := select v30 v36 v35
  v37

/-- The exponents of the groups of `h`. -/
def expsOf (h : FVec Ideal S2048x304x32 .f32) : FVec Ideal S2048x304 .f32 := expOf (amaxOf (magOf h))

/-- The activations `h` divided by two to the exponents `e` of their groups. -/
def scaledOf (h : FVec Ideal S2048x304x32 .f32) (e : FVec Ideal S2048x304 .f32) : FVec Ideal S2048x304x32 .f32 :=
  have cst_12 : Ideal .f32 := Scalar.ofBits .f32 0x00000000#32
  have v38 : FVec Ideal S2048x304 .f32 := broadcast S2048x304 cst_12
  have v39 : FVec Ideal S2048x304 .f32 := subf v38 e
  have v40 : FVec Ideal S2048x304 .f32 := exp2 v39
  have v41 : FVec Ideal S2048x304x1 .f32 := shapeCast S2048x304x1 v40 shapeCasts_S2048x304_S2048x304x1
  have v42 : FVec Ideal S2048x304x32 .f32 := broadcastTo S2048x304x32 v41 broadcasts_S2048x304x1_S2048x304x32
  have v43 : FVec Ideal S2048x304x32 .f32 := mulf h v42
  v43

/-- The reference's exponents are those of its activations. -/
theorem pay8_eq (v0 : Vec Ideal S80x19456 .i8) (v7 : Vec Ideal S2560x19456 .fp8e4m3) (v13 : Vec Ideal S2048x2560 .bf16) :
    k0_pay8 (F := Ideal) v0 v7 v13 = expsOf (k0_pay7 (F := Ideal) v0 v7 v13) := rfl

/-- The reference's scaled activations are its activations, scaled by its exponents. -/
theorem pay9_eq (v0 : Vec Ideal S80x19456 .i8) (v7 : Vec Ideal S2560x19456 .fp8e4m3) (v13 : Vec Ideal S2048x2560 .bf16) :
    k0_pay9 (F := Ideal) v0 v7 v13 = scaledOf (k0_pay7 (F := Ideal) v0 v7 v13) (k0_pay8 (F := Ideal) v0 v7 v13) := rfl

/-- The scaled activations at an index. -/
theorem scaledOf_at (h : FVec Ideal S2048x304x32 .f32) (e : FVec Ideal S2048x304 .f32) (p : Fin 2048) (g : Fin 304) (i : Fin 32) :
    scaledOf h e (ix3 p g i) = (h (ix3 p g i) * Ideal.exp2 (0 - e (ix2 p g)) : EReal) := by
  pointwise [scaledOf]
  rfl

/-- An exponent at an index, from the largest magnitude. -/
theorem expOf_at (v : FVec Ideal S2048x304 .f32) (p : Fin 2048) (g : Fin 304) : expOf v (ix2 p g) = (expR (v (ix2 p g)) : EReal) := by
  unfold expR
  pointwise [expOf]
  rfl

/-- The maximum over the last of three axes, at an index. -/
theorem max_last {a b n : Nat} (src : FVec Ideal ⟨3, ![a, b, n]⟩ .f32) (acc : BitVec 32) (hr : Shape.Reduces ⟨3, ![a, b, n]⟩ [2] ⟨2, ![a, b]⟩)
    (hφ : FKind.Formats .f32) (hacc : acc = FKind.maximumf.neutral .f32 hφ) (p : Fin a) (g : Fin b) :
    multiReduction .maximumf [2] ⟨2, ![a, b]⟩ src acc hr hφ hacc (ix2 p g)
      = (Finset.fold max (Ideal.ofBits FTy.f32 acc) (fun i : Fin n => src (ix3 p g i)) Finset.univ : EReal) := by
  refine (Ideal.multiReduction_maximumf_single src acc hr hφ hacc (ix2 p g)).trans ?_
  have e : src ∘ hr.lift (ix2 p g) = fun i : Fin n => src (ix3 p g i) := by
    funext i
    refine congrArg src (funext fun c => Fin.ext ?_)
    rw [Shape.Reduces.lift_val]
    match c with
    | ⟨0, _⟩ => rfl
    | ⟨1, _⟩ => rfl
    | ⟨2, _⟩ => rfl
  rw [e]
  rfl

/-- A largest magnitude at an index. -/
theorem magOf_at (h : FVec Ideal S2048x304x32 .f32) (p : Fin 2048) (g : Fin 304) : magOf h (ix2 p g)
    = (Finset.fold max (Ideal.ofBits FTy.f32 4286578688#32) (fun i => (FloatOps.absf (F := Ideal) (φ := FTy.f32) (h (ix3 p g i)) : EReal)) Finset.univ : EReal) :=
  max_last (absf h) 0xFF800000#32 reduces_S2048x304x32_S2048x304 (.inl rfl) rfl p g

/-- A largest magnitude over 448 at an index. -/
theorem amaxOf_at (v : FVec Ideal S2048x304 .f32) (p : Fin 2048) (g : Fin 304) : amaxOf v (ix2 p g) = (v (ix2 p g) * Ideal.ofBits FTy.f32 991054117#32 : EReal) := rfl

/-- An exponent at an index. -/
theorem expsOf_at (h : FVec Ideal S2048x304x32 .f32) (p : Fin 2048) (g : Fin 304) :
    expsOf h (ix2 p g) = (expR (amaxK fun i => h (ix3 p g i)) : EReal) :=
  (expOf_at _ p g).trans (congrArg expR ((amaxOf_at _ p g).trans (congrArg (fun z : EReal => z * Ideal.ofBits FTy.f32 991054117#32) (magOf_at h p g))))

end Cert.GuRefIdeal.Hand

end
-- ==== Proof.GuClaim.lean ====
/- The gate and up projection agrees with its reference. -/
module

public import proofs.«01_k».proof.Defs
public import proofs.«01_k».proof.Proof.GuFinal
public import proofs.«01_k».proof.Proof.Quant
public import proofs.«01_k».proof.Proof.GuRef
public import proofs.«01_k».proof.Proof.Gen.GuRefIdeal.Value
public import proofs.«01_k».proof.Proof.Gen.Pre_gu_scales_normal

@[expose] public section

set_option maxRecDepth 16384

noncomputable section

open Idealize.ShloMosaic Idealize.ShloMosaic.TcCoe Idealize.SL.Sem

namespace Cert.GuIdeal.Hand

open Cert.GuIdeal Cert.GuIdeal.Gen Cert.Hand

/-- Two zeros. -/
theorem vec2_zero : (![0, 0] : Fin 2 → Nat) = fun _ => 0 := by decide

/-- A quotient by one plus an exponential is a product with the logistic function. -/
theorem silu_eq (a : EReal) : Ideal.div a (1 + Ideal.exp (0 - a)) = a * Ideal.logistic a := by
  have h0 : 0 ≤ Ideal.exp (-a) := by
    induction -a using EReal.rec with
    | bot => exact le_refl _
    | top => exact le_top
    | coe r => exact EReal.coe_nonneg.mpr (Real.exp_nonneg r)
  have h1 : (1 + Ideal.exp (-a) : EReal) ≠ 0 := by
    have h2 : (0 : EReal) < 1 + Ideal.exp (-a) := lt_of_lt_of_le (by norm_num : (0 : EReal) < 1 + 0) (add_le_add (le_refl 1) h0)
    exact ne_of_gt h2
  unfold Ideal.logistic
  rw [zero_sub]
  unfold Ideal.div
  rw [if_neg h1, if_neg h1, one_mul]

variable (a0 : Vec Ideal S2048x2560 .bf16) (a1 : Vec Ideal S2560x19456 .fp8e4m3) (a2 : Vec Ideal S80x19456 .i8)

/-- The reference's contraction: the scale is two to the stored exponent less 127. -/
def linR (p : Fin 2048) (j : Fin 19456) : EReal :=
  ∑ k : Fin 2560, a0 (ix2 p k) * (a1 (ix2 k j) * Ideal.exp2 (((BitVec.setWidth 32 (a2 (ix2 (⟨k.val / 32, by omega⟩ : Fin 80) j)) - 127#32).toInt : ℝ) : EReal))

/-- The reference's activations at an index. -/
theorem refH_at (p : Fin 2048) (g : Fin 304) (i : Fin 32) : Cert.GuRefIdeal.Gen.k0_pay7 (F := Ideal) a2 a1 a0 (ix3 p g i)
    = (linR a0 a1 a2 p (⟨g.val * 32 + i.val, by omega⟩ : Fin 19456) * Ideal.logistic (linR a0 a1 a2 p (⟨g.val * 32 + i.val, by omega⟩ : Fin 19456))
      * linR a0 a1 a2 p (⟨9728 + (g.val * 32 + i.val), by omega⟩ : Fin 19456) : EReal) := by
  unfold linR
  pointwise [Cert.GuRefIdeal.Gen.k0_pay7]
  rfl

/-- The reference's exponents at an index. -/
theorem refE_at (p : Fin 2048) (g : Fin 304) : Cert.GuRefIdeal.Gen.k0_pay8 (F := Ideal) a2 a1 a0 (ix2 p g)
    = (expR (amaxK fun i => Cert.GuRefIdeal.Gen.k0_pay7 (F := Ideal) a2 a1 a0 (ix3 p g i)) : EReal) :=
  (congrFun (Cert.GuRefIdeal.Hand.pay8_eq a2 a1 a0) (ix2 p g)).trans (Cert.GuRefIdeal.Hand.expsOf_at _ p g)

/-- The reference's scaled activations at an index. -/
theorem refS_at (p : Fin 2048) (g : Fin 304) (i : Fin 32) : Cert.GuRefIdeal.Gen.k0_pay9 (F := Ideal) a2 a1 a0 (ix3 p g i)
    = (Cert.GuRefIdeal.Gen.k0_pay7 (F := Ideal) a2 a1 a0 (ix3 p g i) * Ideal.exp2 (0 - Cert.GuRefIdeal.Gen.k0_pay8 (F := Ideal) a2 a1 a0 (ix2 p g)) : EReal) :=
  (congrFun (Cert.GuRefIdeal.Hand.pay9_eq a2 a1 a0) (ix3 p g i)).trans (Cert.GuRefIdeal.Hand.scaledOf_at _ _ p g i)

/-- The reference's codes at an index, from its scaled activations. -/
theorem refC_at (v : FVec Ideal Cert.GuRefIdeal.S2048x304x32 .f32) (p : Fin 2048) (n : Fin 9728) : Cert.GuRefIdeal.Gen.k0_pay3 (F := Ideal) v (ix2 p n)
    = (min (Ideal.ofBits FTy.f32 1138753536#32) (max (Ideal.ofBits FTy.f32 3286237184#32) (v (ix3 p (⟨n.val / 32, by omega⟩ : Fin 304) (⟨n.val % 32, by omega⟩ : Fin 32)))) : EReal) := by
  pointwise [Cert.GuRefIdeal.Gen.k0_pay3, Cert.GuRefIdeal.Gen.k0_pay1]

/-- What the reference's codes stand for, from its exponents and scaled activations. -/
theorem refW_at (e : FVec Ideal Cert.GuRefIdeal.S2048x304 .f32) (v : FVec Ideal Cert.GuRefIdeal.S2048x304x32 .f32) (p : Fin 2048) (n : Fin 9728) :
    Cert.GuRefIdeal.Gen.k0_pay4 (F := Ideal) e v (ix2 p n)
      = (min (Ideal.ofBits FTy.f32 1138753536#32) (max (Ideal.ofBits FTy.f32 3286237184#32) (v (ix3 p (⟨n.val / 32, by omega⟩ : Fin 304) (⟨n.val % 32, by omega⟩ : Fin 32))))
        * Ideal.exp2 (e (ix2 p (⟨n.val / 32, by omega⟩ : Fin 304))) : EReal) := by
  pointwise [Cert.GuRefIdeal.Gen.k0_pay4, Cert.GuRefIdeal.Gen.k0_pay1]
  rfl

/-- The reference's exponent bytes at an index, from its exponents. -/
theorem refB_at (e : FVec Ideal Cert.GuRefIdeal.S2048x304 .f32) (b : Fin 2) (g : Fin 304) (r : Fin 1024) :
    (View.canon (Val := Elt Ideal) (e := EltTy.i8) [⟨Cert.GuRefIdeal.Gen.r0_5, Cert.GuRefIdeal.Gen.k0_pay6 e⟩, ⟨Cert.GuRefIdeal.Gen.r0_4, Cert.GuRefIdeal.Gen.k0_pay5 e⟩] (ix3 b g r) : BitVec 8)
      = (BitVec.setWidth 8 (IntOp.addi (FloatOps.fptosi (F := Ideal) (φ := FTy.f32) 32 (e (ix2 (⟨b.val * 1024 + r.val, by omega⟩ : Fin 2048) g))) 127#32) : BitVec 8) := by
  canon_tiles x h
  all_goals
    refine (show _ = (_ : BitVec 8) from ?_)
    pointwise [Cert.GuRefIdeal.Gen.k0_pay6, Cert.GuRefIdeal.Gen.k0_pay5, Cert.GuRefIdeal.Gen.k0_pay2]
  all_goals
    have hb : b.val = _ := ‹((ix3 b g r) 0).val = _›
    have hg : g.val = _ := ‹((ix3 b g r) 1).val = _›
    have hr : r.val = _ := ‹((ix3 b g r) 2).val = _›
    blk_point

/-- The precondition at an index: the exponent is that of a normal number. -/
theorem pre_at (h : Cert.Pre_gu_scales_normal.fn (F := Ideal) a0 a1 a2 = fun _ => 1#1) (k : Fin 80) (n : Fin 19456) :
    1 ≤ (a2 (ix2 k n) : BitVec 8).toNat ∧ (a2 (ix2 k n) : BitVec 8).toNat ≤ 254 := by
  have e := congrFun h (ix2 k n)
  pointwise [Cert.Pre_gu_scales_normal.fn] at e
  exact normal_bits _ e

section
variable {a0 a1 a2} (h : Cert.Pre_gu_scales_normal.fn (F := Ideal) a0 a1 a2 = fun _ => 1#1)
include h

/-- Under the precondition the two contractions agree. -/
theorem lin_eq (p : Fin 2048) (j : Fin 19456) : lin a0 a1 a2 p j = linR a0 a1 a2 p j := by
  unfold lin linR scale
  refine Finset.sum_congr rfl fun k _ => ?_
  obtain ⟨h1, h2⟩ := pre_at a0 a1 a2 h ⟨k.val / 32, by omega⟩ j
  rw [scale_word _ h1 h2, exp2_word]

/-- Under the precondition the two groups agree. -/
theorem hgrp_eq (p : Fin 2048) (g : Fin 304) : hgrp a0 a1 a2 p g = fun i => Cert.GuRefIdeal.Gen.k0_pay7 (F := Ideal) a2 a1 a0 (ix3 p g i) := by
  funext i
  rw [refH_at]
  unfold hgrp hid
  rw [silu_eq, lin_eq h, lin_eq h]

/-- Under the precondition the two activations agree. -/
theorem hid_eq (p : Fin 2048) (n : Fin 9728) :
    hid a0 a1 a2 p n = Cert.GuRefIdeal.Gen.k0_pay7 (F := Ideal) a2 a1 a0 (ix3 p (⟨n.val / 32, by omega⟩ : Fin 304) (⟨n.val % 32, by omega⟩ : Fin 32)) := by
  have e := congrFun (hgrp_eq h p (⟨n.val / 32, by omega⟩ : Fin 304)) (⟨n.val % 32, by omega⟩ : Fin 32)
  refine Eq.trans ?_ e
  unfold hgrp
  exact congrArg (hid a0 a1 a2 p) (Fin.ext (by dsimp only; omega))

/-- The two scaled and clipped activations agree. -/
theorem codes_eq (p : Fin 2048) (n : Fin 9728) :
    codes a0 a1 a2 p n = Cert.GuRefIdeal.Gen.k0_pay3 (F := Ideal) (Cert.GuRefIdeal.Gen.k0_pay9 (F := Ideal) a2 a1 a0) (ix2 p n) := by
  rw [refC_at, refS_at, refE_at, ← hgrp_eq h, ← hid_eq h]
  unfold codes codeK
  rw [scale_eq]

/-- What the two codes stand for agrees. -/
theorem back_eq (p : Fin 2048) (n : Fin 9728) :
    back a0 a1 a2 p n = Cert.GuRefIdeal.Gen.k0_pay4 (F := Ideal) (Cert.GuRefIdeal.Gen.k0_pay8 (F := Ideal) a2 a1 a0)
      (Cert.GuRefIdeal.Gen.k0_pay9 (F := Ideal) a2 a1 a0) (ix2 p n) := by
  rw [refW_at, refS_at, refE_at, ← hgrp_eq h, ← hid_eq h]
  unfold back backK codeK
  rw [back_scale_eq, scale_eq]

/-- The exponent bytes agree. -/
theorem bytes_eq (b : Fin 2) (g : Fin 304) (r : Fin 1024) :
    bytes a0 a1 a2 b g r = (View.canon (Val := Elt Ideal) (e := EltTy.i8) [⟨Cert.GuRefIdeal.Gen.r0_5, Cert.GuRefIdeal.Gen.k0_pay6 (Cert.GuRefIdeal.Gen.k0_pay8 (F := Ideal) a2 a1 a0)⟩,
      ⟨Cert.GuRefIdeal.Gen.r0_4, Cert.GuRefIdeal.Gen.k0_pay5 (Cert.GuRefIdeal.Gen.k0_pay8 (F := Ideal) a2 a1 a0)⟩] (ix3 b g r) : BitVec 8) := by
  rw [refB_at, refE_at, ← hgrp_eq h]
  unfold bytes
  rw [byte_scale_eq]

end

/-- The exponents the reference stores are those of its arguments. -/
theorem pay10_eq : Cert.GuRefIdeal.Gen.k0_pay10 (F := Ideal) a0 a1 a2 = Cert.GuRefIdeal.Gen.k0_pay8 (F := Ideal) a2 a1 a0 := by
  unfold Cert.GuRefIdeal.Gen.k0_pay10
  rw [View.ld_unit_zero vec2_zero, View.ld_unit_zero vec2_zero, View.ld_unit_zero vec2_zero]

/-- The scaled activations the reference stores are those of its arguments. -/
theorem pay11_eq : Cert.GuRefIdeal.Gen.k0_pay11 (F := Ideal) a0 a1 a2 = Cert.GuRefIdeal.Gen.k0_pay9 (F := Ideal) a2 a1 a0 := by
  unfold Cert.GuRefIdeal.Gen.k0_pay11
  rw [View.ld_unit_zero vec2_zero, View.ld_unit_zero vec2_zero, View.ld_unit_zero vec2_zero]

/-- From memories that agree on the arguments, under the precondition, the kernel and its reference leave the same three arrays. -/
theorem algebraic : Cert.algebraic_GuIdeal_GuRefIdeal_pre_gu_scales_normal (hGuIdeal := Cert.GuIdeal.Gen.facts)
    (hGuRefIdeal := Cert.GuRefIdeal.Gen.facts) (hPre_gu_scales_normal := Cert.Pre_gu_scales_normal.Gen.facts) := by
  intro m g m' g' hpre hargs
  refine ⟨fun c => (dats m 0 c).arrAt 5 cfg0.N, fun c => (dats m 0 c).arrAt 6 cfg0.N, fun c => (dats m 0 c).arrAt 7 cfg0.N,
    Cert.GuIdeal.Value.run_blocks m g, ?_⟩
  refine (θ_run _ _ _).mono (fun r h c => ⟨(h c).1.trans ?_, (h c).2.1.trans ?_, (h c).2.2.1.trans ?_, (h c).2.2.2⟩) (Cert.GuRefIdeal.Value.run m' g')
  all_goals
    obtain ⟨e0, e1, e2⟩ := hargs c
    have hp : Cert.Pre_gu_scales_normal.fn (F := Ideal) (A0 m c) (A1 m c) (A2 m c) = fun _ => 1#1 := hpre c
  · rw [e0, e1, e2]
    refine Eq.trans ?_ (final5 m c).symm
    show Cert.GuRefIdeal.Gen.k0_pay3 (F := Ideal) (Cert.GuRefIdeal.Gen.k0_pay11 (F := Ideal) (A0 m c) (A1 m c) (A2 m c)) = _
    rw [pay11_eq]
    funext y
    idx_vars y
    exact (codes_eq hp y0 y1).symm
  · rw [e0, e1, e2]
    refine Eq.trans ?_ (final6 m c).symm
    show View.canon (Val := Elt Ideal) (e := EltTy.i8) [⟨Cert.GuRefIdeal.Gen.r0_5, Cert.GuRefIdeal.Gen.k0_pay6 (Cert.GuRefIdeal.Gen.k0_pay10 (F := Ideal) (A0 m c) (A1 m c) (A2 m c))⟩,
      ⟨Cert.GuRefIdeal.Gen.r0_4, Cert.GuRefIdeal.Gen.k0_pay5 (Cert.GuRefIdeal.Gen.k0_pay10 (F := Ideal) (A0 m c) (A1 m c) (A2 m c))⟩] = _
    rw [pay10_eq]
    funext y
    idx_vars y
    exact (bytes_eq hp y0 y1 y2).symm
  · rw [e0, e1, e2]
    refine Eq.trans ?_ (final7 m c).symm
    show Cert.GuRefIdeal.Gen.k0_pay4 (F := Ideal) (Cert.GuRefIdeal.Gen.k0_pay10 (F := Ideal) (A0 m c) (A1 m c) (A2 m c)) (Cert.GuRefIdeal.Gen.k0_pay11 (F := Ideal) (A0 m c) (A1 m c) (A2 m c)) = _
    rw [pay10_eq, pay11_eq]
    funext y
    idx_vars y
    exact (back_eq hp y0 y1).symm

end Cert.GuIdeal.Hand

end
-- ==== Proof.RowQuant.lean ====
/- The quantiser over a block of 256 rows and 2560 columns, taken 128 columns at a time. Shared by the calls that quantise a norm. -/
module

public import proofs.«01_k».proof.Proof.GuBlock

@[expose] public section

set_option maxRecDepth 16384
set_option maxHeartbeats 4000000

noncomputable section

open Idealize.ShloMosaic Idealize.ShloMosaic.TcCoe Idealize.SL.Sem

namespace Cert.Hand

open Cert.GuIdeal.Hand

/-- Columns `128 n` to `128 n + 127` lie in a block. -/
theorem chunk_slices : ∀ n : Fin 20, (⟨2, ![256, 2560]⟩ : Shape).Slices ![0, 128 * n.val] (⟨2, ![256, 128]⟩ : Shape) := by decide

/-- The chunk of columns with number `n`. -/
def chunk (z : FVec Ideal (⟨2, ![256, 2560]⟩ : Shape) .f32) (n : Fin 20) : FVec Ideal (⟨2, ![256, 128]⟩ : Shape) .f32 :=
  extractStridedSlice (⟨2, ![256, 128]⟩ : Shape) ![0, 128 * n.val] z (chunk_slices n)

/-- The group of 32 values of row `r` with number `g`. -/
def normGrp (z : FVec Ideal (⟨2, ![256, 2560]⟩ : Shape) .f32) (r : Fin 256) (g : Fin 80) (i : Fin 32) : EReal := z (ix2 r (⟨g.val * 32 + i.val, by omega⟩ : Fin 2560))

/-- A row divided by the root of its mean square, times a gain. -/
def normV (h : Fin 2560 → EReal) (g : EReal) (n : Fin 2560) : EReal :=
  Ideal.div (h n) (Ideal.sqrt (Ideal.div (∑ k, (h k * h k : EReal)) (Ideal.ofBits FTy.f32 0x45200000#32) + Ideal.ofBits FTy.f32 0x358637BD#32)) * g

/-- A value of a chunk is a value of the block. -/
theorem chunk_at (z : FVec Ideal (⟨2, ![256, 2560]⟩ : Shape) .f32) (n : Fin 20) (r : Fin 256) (k : Fin 128) (j : Fin 2560) (hj : j.val = 128 * n.val + k.val) :
    chunk z n (ix2 r k) = z (ix2 r j) := by
  unfold chunk
  pointwise
  exact congrArg z (congrArg (ix2 r) (Fin.ext (by dsimp only; omega)))

/-- A group of a chunk is a group of the block. -/
theorem chunk_grp (z : FVec Ideal (⟨2, ![256, 2560]⟩ : Shape) .f32) (n : Fin 20) (r : Fin 256) (g : Fin 4) (j : Fin 80) (hj : j.val = 4 * n.val + g.val) :
    chunkGrp (chunk z n) r g = normGrp z r j := by
  funext i
  unfold chunkGrp normGrp
  exact chunk_at z n r _ _ (by dsimp only; omega)

/-- Twenty chunks make a block. -/
theorem cols_concat : Shape.Concatenates (List.ofFn fun _ : Fin 20 => (⟨2, ![256, 128]⟩ : Shape)) (⟨2, ![256, 2560]⟩ : Shape) 1 := by decide

/-- The codes of a block. -/
def normCodes (z : FVec Ideal (⟨2, ![256, 2560]⟩ : Shape) .f32) : FVec Ideal (⟨2, ![256, 2560]⟩ : Shape) .fp8e4m3 :=
  concatenate (⟨2, ![256, 2560]⟩ : Shape) 1 (List.ofFn fun n : Fin 20 => (⟨(⟨2, ![256, 128]⟩ : Shape), chunkCode (chunk z n)⟩ : (s : Shape) × (s.Idx → _))) cols_concat

/-- What the codes of a block stand for. -/
def normBack (z : FVec Ideal (⟨2, ![256, 2560]⟩ : Shape) .f32) : FVec Ideal (⟨2, ![256, 2560]⟩ : Shape) .bf16 :=
  concatenate (⟨2, ![256, 2560]⟩ : Shape) 1 (List.ofFn fun n : Fin 20 => (⟨(⟨2, ![256, 128]⟩ : Shape), chunkBack (chunk z n)⟩ : (s : Shape) × (s.Idx → _))) cols_concat

/-- Twenty chunks' exponents make a block's. -/
theorem rows_concat : Shape.Concatenates (List.ofFn fun _ : Fin 20 => (⟨2, ![4, 256]⟩ : Shape)) (⟨2, ![80, 256]⟩ : Shape) 0 := by decide

/-- The exponents of a block. -/
def normExps (z : FVec Ideal (⟨2, ![256, 2560]⟩ : Shape) .f32) : IVec (⟨2, ![80, 256]⟩ : Shape) 32 :=
  concatenate (⟨2, ![80, 256]⟩ : Shape) 0 (List.ofFn fun n : Fin 20 => (⟨(⟨2, ![4, 256]⟩ : Shape), chunkExp (chunk z n)⟩ : (s : Shape) × (s.Idx → _))) rows_concat

/-- A code of a block. -/
theorem normCodes_at (z : FVec Ideal (⟨2, ![256, 2560]⟩ : Shape) .f32) (r : Fin 256) (n : Fin 2560) :
    normCodes z (ix2 r n) = codeK (normGrp z r ⟨n.val / 32, by omega⟩) (z (ix2 r n)) := by
  refine (concatenate_ofFn_apply (t := (⟨2, ![256, 2560]⟩ : Shape)) (s₁ := (⟨2, ![256, 128]⟩ : Shape)) (1 : Fin 2) (fun n : Fin 20 => chunkCode (chunk z n)) _ rfl 128 rfl
    (ix2 r n) (⟨n.val / 128, by omega⟩ : Fin 20) rfl (ix2 r (⟨n.val % 128, by omega⟩ : Fin 128)) rfl (fun b hb => ?_)).trans ?_
  · match b with
    | ⟨0, _⟩ => rfl
    | ⟨1, _⟩ => exact absurd rfl hb
  · beta_reduce
    rw [chunkCode_at, chunk_grp z _ r _ ⟨n.val / 32, by omega⟩ (by dsimp only; omega), chunk_at z _ r _ n (by dsimp only; omega)]

/-- What a code of a block stands for. -/
theorem normBack_at (z : FVec Ideal (⟨2, ![256, 2560]⟩ : Shape) .f32) (r : Fin 256) (n : Fin 2560) :
    normBack z (ix2 r n) = backK (normGrp z r ⟨n.val / 32, by omega⟩) (z (ix2 r n)) := by
  refine (concatenate_ofFn_apply (t := (⟨2, ![256, 2560]⟩ : Shape)) (s₁ := (⟨2, ![256, 128]⟩ : Shape)) (1 : Fin 2) (fun n : Fin 20 => chunkBack (chunk z n)) _ rfl 128 rfl
    (ix2 r n) (⟨n.val / 128, by omega⟩ : Fin 20) rfl (ix2 r (⟨n.val % 128, by omega⟩ : Fin 128)) rfl (fun b hb => ?_)).trans ?_
  · match b with
    | ⟨0, _⟩ => rfl
    | ⟨1, _⟩ => exact absurd rfl hb
  · beta_reduce
    rw [chunkBack_at, chunk_grp z _ r _ ⟨n.val / 32, by omega⟩ (by dsimp only; omega), chunk_at z _ r _ n (by dsimp only; omega)]

/-- An exponent of a block. -/
theorem normExps_at (z : FVec Ideal (⟨2, ![256, 2560]⟩ : Shape) .f32) (g : Fin 80) (r : Fin 256) :
    normExps z (ix2 g r) = expK (normGrp z r g) := by
  refine (concatenate_ofFn_apply (t := (⟨2, ![80, 256]⟩ : Shape)) (s₁ := (⟨2, ![4, 256]⟩ : Shape)) (0 : Fin 2) (fun n : Fin 20 => chunkExp (chunk z n)) _ rfl 4 rfl
    (ix2 g r) (⟨g.val / 4, by omega⟩ : Fin 20) rfl (ix2 (⟨g.val % 4, by omega⟩ : Fin 4) r) rfl (fun b hb => ?_)).trans ?_
  · match b with
    | ⟨0, _⟩ => exact absurd rfl hb
    | ⟨1, _⟩ => rfl
  · beta_reduce
    rw [chunkExp_at, chunk_grp z _ r _ g (by dsimp only; omega)]

end Cert.Hand

end
-- ==== Proof.OprojBlock.lean ====
/- The values of one grid point of the output projection: widened weights, the residual stream, its norm. -/
module

public import proofs.«01_k».proof.Proof.Gen.OprojIdeal.Value
public import proofs.«01_k».proof.Proof.RowQuant
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem

namespace Cert.OprojIdeal.Hand

open Cert.OprojIdeal Cert.OprojIdeal.Gen Cert.Hand Cert.GuIdeal.Hand

/-- The widened weights: each code times the scale word of its group of 32 rows. -/
def wts (x2 : Vec Ideal S4096x2560 .fp8e4m3) (x3 : Vec Ideal S128x2560 .i8) : Vec Ideal S4096x2560 .bf16 := fun y =>
  (x2 y * Ideal.ofBits FTy.f32 (IntOp.shli ArithUnit.vector (BitVec.setWidth 32 (x3 (ix2 (⟨(y 0).val / 32, by have := (y 0).isLt; change (y 0).val < 4096 at this; omega⟩ : Fin 128) (y 1)))) 23#32) : EReal)

/-- A widened weight. -/
theorem wts_at (x2 : Vec Ideal S4096x2560 .fp8e4m3) (x3 : Vec Ideal S128x2560 .i8) (k : Fin 4096) (n : Fin 2560) :
    wts x2 x3 (ix2 k n) = (x2 (ix2 k n) * Ideal.ofBits FTy.f32 (IntOp.shli ArithUnit.vector (BitVec.setWidth 32 (x3 (ix2 (⟨k.val / 32, by omega⟩ : Fin 128) n))) 23#32) : EReal) := rfl

/-- The residual stream of a block of 256 rows. -/
def hval (xb : Vec Ideal S256x2560 .bf16) (ob : Vec Ideal S256x4096 .bf16) (w : Vec Ideal S4096x2560 .bf16) (r : Fin 256) (n : Fin 2560) : EReal :=
  xb (ix2 r n) + ∑ k : Fin 4096, (ob (ix2 r k) * w (ix2 k n) : EReal)

/-- The residual stream of a block of 256 rows, as the kernel computes it. -/
theorem h1_at (xb : Vec Ideal S256x2560 .bf16) (ob : Vec Ideal S256x4096 .bf16) (w : Vec Ideal S4096x2560 .bf16) (r : Fin 256) (n : Fin 2560) :
    k0_pay27 (F := Ideal) xb ob w (ix2 r n) = hval xb ob w r n := by
  unfold hval
  pointwise [k0_pay27]

/-- The norm of a block of 256 rows, as the kernel computes it. -/
theorem norm_at (xb : Vec Ideal S256x2560 .bf16) (ob : Vec Ideal S256x4096 .bf16) (w : Vec Ideal S4096x2560 .bf16) (g : Vec Ideal S1x2560 .f32) (r : Fin 256) (n : Fin 2560) :
    k0_pay28 (F := Ideal) xb ob w g (ix2 r n) = normV (hval xb ob w r) (g (ix2 (0 : Fin 1) n)) n := by
  have e : hval xb ob w r = fun n => k0_pay27 (F := Ideal) xb ob w (ix2 r n) := funext fun n => (h1_at xb ob w r n).symm
  rw [e]
  unfold normV
  generalize hz : k0_pay27 (F := Ideal) xb ob w = z
  unfold k0_pay28
  rw [hz]
  pointwise

/-- The first point leaves the widened weights in the scratch. -/
theorem sout_A (c : Dev nD) (t : Fin cfg0.N) (h0 : cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 = wts x2 x3 := by
  funext y
  idx_vars y
  frame_out
  canon_tiles x h
  all_goals (refine (show _ = (_ : EReal) from ?_); open_payloads)
  all_goals
    have hk : y0.val = _ := ‹((ix2 y0 y1) 0).val = _›
    have hn : y1.val = _ := ‹((ix2 y0 y1) 1).val = _›
    rw [wts_at]
    pointwise
    blk_point

end Cert.OprojIdeal.Hand

end
-- ==== Proof.OprojOuts.lean ====
/- What one grid point of the output projection writes, at the first point and at every other point. -/
module

public import proofs.«01_k».proof.Proof.OprojBlock

@[expose] public section

set_option maxRecDepth 16384
set_option maxHeartbeats 4000000

noncomputable section

open Idealize.ShloMosaic Idealize.ShloMosaic.TcCoe Idealize.SL.Sem

namespace Cert.OprojIdeal.Hand

open Cert.OprojIdeal Cert.OprojIdeal.Gen Cert.Hand Cert.GuIdeal.Hand

/-- Both offsets of a whole block are zero. -/
theorem zero2 : (![0, 0] : Fin 2 → Nat) = fun _ => 0 := by decide

/-- The norm of a block of 256 rows. -/
def nrm (ob : Vec Ideal S256x4096 .bf16) (xb : Vec Ideal S256x2560 .bf16) (w : Vec Ideal S4096x2560 .bf16) (g : Vec Ideal S1x2560 .f32) : FVec Ideal S256x2560 .f32 :=
  k0_pay28 (F := Ideal) xb ob w g

/-- A value of the norm. -/
theorem nrm_at (ob : Vec Ideal S256x4096 .bf16) (xb : Vec Ideal S256x2560 .bf16) (w : Vec Ideal S4096x2560 .bf16) (g : Vec Ideal S1x2560 .f32) (r : Fin 256) (n : Fin 2560) :
    nrm ob xb w g (ix2 r n) = normV (hval xb ob w r) (g (ix2 (0 : Fin 1) n)) n := norm_at xb ob w g r n

/-- The residual stream of a block, once it is known to be what the point stores. -/
theorem h1_of (ob : Vec Ideal S256x4096 .bf16) (xb : Vec Ideal S256x2560 .bf16) (w : Vec Ideal S4096x2560 .bf16)
    (v : FVec Ideal S256x2560 .f32) (hv : v = k0_pay27 (F := Ideal) xb ob w) (x : Shape.Idx S256x2560) (r : Fin 256) (n : Fin 2560) (hr : r.val = (x 0).val) (hn : n.val = (x 1).val) :
    v x = hval xb ob w r n := by
  idx_vars x
  obtain rfl : r = x0 := Fin.ext hr
  obtain rfl : n = x1 := Fin.ext hn
  rw [hv, h1_at]

/-- The codes of a block, once they are known to be what the point stores. -/
theorem codes_of (z : FVec Ideal S256x2560 .f32) (v : FVec Ideal S256x2560 .fp8e4m3) (hv : v = normCodes z)
    (x : Shape.Idx S256x2560) (r : Fin 256) (n : Fin 2560) (hr : r.val = (x 0).val) (hn : n.val = (x 1).val) :
    v x = codeK (normGrp z r ⟨n.val / 32, by omega⟩) (z (ix2 r n)) := by
  idx_vars x
  obtain rfl : r = x0 := Fin.ext hr
  obtain rfl : n = x1 := Fin.ext hn
  rw [hv, normCodes_at]

/-- What the codes of a block stand for, once that is known to be what the point stores. -/
theorem back_of (z : FVec Ideal S256x2560 .f32) (v : FVec Ideal S256x2560 .bf16) (hv : v = normBack z)
    (x : Shape.Idx S256x2560) (r : Fin 256) (n : Fin 2560) (hr : r.val = (x 0).val) (hn : n.val = (x 1).val) :
    v x = backK (normGrp z r ⟨n.val / 32, by omega⟩) (z (ix2 r n)) := by
  idx_vars x
  obtain rfl : r = x0 := Fin.ext hr
  obtain rfl : n = x1 := Fin.ext hn
  rw [hv, normBack_at]

/-- The exponent bytes of a block, once they are known to be what the point stores. -/
theorem bytes_of (z : FVec Ideal S256x2560 .f32) (v : IVec S1x80x256 8) (hv : v = k0_pay4 (normExps z))
    (x : Shape.Idx S1x80x256) (g : Fin 80) (r : Fin 256) (hg : g.val = (x 1).val) (hr : r.val = (x 2).val) :
    v x = BitVec.setWidth 8 (expK (normGrp z r g)) := by
  idx_vars x
  obtain rfl : g = x1 := Fin.ext hg
  obtain rfl : r = x2 := Fin.ext hr
  rw [hv]
  pointwise [k0_pay4, normExps_at]

/-- The residual stream a later point writes. -/
theorem h1_B (c : Dev nD) (t : Fin cfg0.N) (h0 : ¬cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (xs0 : Vec Ideal S4096x2560 .bf16) (r : Fin 256) (n : Fin 2560) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 xs0 (ix2 r n)
      = (hval x1 x0 xs0 r n : EReal) := by
  frame_out
  try simp (disch := decide) only [read_unread_whole, readCov_all]
  refine (show _ = (_ : EReal) from ?_)
  exact h1_of x0 x1 xs0 _ rfl (ix2 r n) r n rfl rfl

/-- The codes a later point writes. -/
theorem codes_B (c : Dev nD) (t : Fin cfg0.N) (h0 : ¬cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (xs0 : Vec Ideal S4096x2560 .bf16) (r : Fin 256) (n : Fin 2560) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 xs0 (ix2 r n)
      = (codeK (normGrp (nrm x0 x1 xs0 x4) r ⟨n.val / 32, by omega⟩) (nrm x0 x1 xs0 x4 (ix2 r n)) : EReal) := by
  frame_out
  try simp (disch := decide) only [read_unread_whole, readCov_all]
  refine (show _ = (_ : EReal) from ?_)
  exact codes_of (nrm x0 x1 xs0 x4) _ rfl (ix2 r n) r n rfl rfl

/-- What the codes a later point writes stand for. -/
theorem back_B (c : Dev nD) (t : Fin cfg0.N) (h0 : ¬cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (xs0 : Vec Ideal S4096x2560 .bf16) (r : Fin 256) (n : Fin 2560) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 xs0 (ix2 r n)
      = (backK (normGrp (nrm x0 x1 xs0 x4) r ⟨n.val / 32, by omega⟩) (nrm x0 x1 xs0 x4 (ix2 r n)) : EReal) := by
  frame_out
  try simp (disch := decide) only [read_unread_whole, readCov_all]
  refine (show _ = (_ : EReal) from ?_)
  exact back_of (nrm x0 x1 xs0 x4) _ rfl (ix2 r n) r n rfl rfl

/-- The residual stream a first point writes. -/
theorem h1_A (c : Dev nD) (t : Fin cfg0.N) (h0 : cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (r : Fin 256) (n : Fin 2560) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 (ix2 r n)
      = (hval x1 x0 (wts x2 x3) r n : EReal) := by
  frame_out
  try simp (disch := decide) only [read_unread_whole, readCov_all]
  generalize hw : (View.canon (Val := Elt Ideal) [(⟨Rect.unit ![3840, 0] ![256, 2560] inb_S4096x2560_S256x2560_3840_0, _⟩ : View.Piece (Elt Ideal) S4096x2560 EltTy.bf16), _, _, _, _, _, _, _, _, _, _, _, _, _, _, _]) = w
  obtain rfl : w = wts x2 x3 := by
    refine Eq.trans ?_ (sout_A c t h0 x0 x1 x2 x3 x4)
    rw [← hw]
    funext y
    symm
    frame_out
  clear hw
  generalize wts x2 x3 = w
  refine (show _ = (_ : EReal) from ?_)
  exact h1_of x0 x1 w _ rfl (ix2 r n) r n rfl rfl

/-- The codes a first point writes. -/
theorem codes_A (c : Dev nD) (t : Fin cfg0.N) (h0 : cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (r : Fin 256) (n : Fin 2560) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 (ix2 r n)
      = (codeK (normGrp (nrm x0 x1 (wts x2 x3) x4) r ⟨n.val / 32, by omega⟩) (nrm x0 x1 (wts x2 x3) x4 (ix2 r n)) : EReal) := by
  frame_out
  try simp (disch := decide) only [read_unread_whole, readCov_all]
  generalize hw : (View.canon (Val := Elt Ideal) [(⟨Rect.unit ![3840, 0] ![256, 2560] inb_S4096x2560_S256x2560_3840_0, _⟩ : View.Piece (Elt Ideal) S4096x2560 EltTy.bf16), _, _, _, _, _, _, _, _, _, _, _, _, _, _, _]) = w
  obtain rfl : w = wts x2 x3 := by
    refine Eq.trans ?_ (sout_A c t h0 x0 x1 x2 x3 x4)
    rw [← hw]
    funext y
    symm
    frame_out
  clear hw
  generalize wts x2 x3 = w
  refine (show _ = (_ : EReal) from ?_)
  exact codes_of (nrm x0 x1 w x4) _ rfl (ix2 r n) r n rfl rfl

/-- What the codes a first point writes stand for. -/
theorem back_A (c : Dev nD) (t : Fin cfg0.N) (h0 : cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (r : Fin 256) (n : Fin 2560) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 (ix2 r n)
      = (backK (normGrp (nrm x0 x1 (wts x2 x3) x4) r ⟨n.val / 32, by omega⟩) (nrm x0 x1 (wts x2 x3) x4 (ix2 r n)) : EReal) := by
  frame_out
  try simp (disch := decide) only [read_unread_whole, readCov_all]
  generalize hw : (View.canon (Val := Elt Ideal) [(⟨Rect.unit ![3840, 0] ![256, 2560] inb_S4096x2560_S256x2560_3840_0, _⟩ : View.Piece (Elt Ideal) S4096x2560 EltTy.bf16), _, _, _, _, _, _, _, _, _, _, _, _, _, _, _]) = w
  obtain rfl : w = wts x2 x3 := by
    refine Eq.trans ?_ (sout_A c t h0 x0 x1 x2 x3 x4)
    rw [← hw]
    funext y
    symm
    frame_out
  clear hw
  generalize wts x2 x3 = w
  refine (show _ = (_ : EReal) from ?_)
  exact back_of (nrm x0 x1 w x4) _ rfl (ix2 r n) r n rfl rfl

end Cert.OprojIdeal.Hand

end
-- ==== Proof.OprojBytes.lean ====
/- The exponent bytes one grid point of the output projection writes. -/
module

public import proofs.«01_k».proof.Proof.OprojOuts

@[expose] public section

set_option maxRecDepth 16384
set_option maxHeartbeats 4000000

noncomputable section

open Idealize.ShloMosaic Idealize.ShloMosaic.TcCoe Idealize.SL.Sem

namespace Cert.OprojIdeal.Hand

open Cert.OprojIdeal Cert.OprojIdeal.Gen Cert.Hand Cert.GuIdeal.Hand

/-- A whole read of the scratch is what its stores left. -/
theorem scratch_all (L : List (View.Piece (Elt Ideal) S4096x2560 EltTy.bf16)) :
    (View.whole cc0_scratch0).readCov L (Rect.unit ![0, 0] ![4096, 2560] inb_S4096x2560_S4096x2560_0_0).toLoadRect = View.canon L :=
  readCov_all (View.whole cc0_scratch0) _ L (by decide)

/-- The exponent bytes a later point writes. -/
theorem bytes_B (c : Dev nD) (t : Fin cfg0.N) (h0 : ¬cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (xs0 : Vec Ideal S4096x2560 .bf16) (a : Fin 1) (g : Fin 80) (r : Fin 256) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 xs0 (ix3 a g r)
      = (BitVec.setWidth 8 (expK (normGrp (nrm x0 x1 xs0 x4) r g)) : BitVec 8) := by
  frame_out
  rw [(hs0_0 t).read_unread, (hs0_1 t).read_unread, (hs0_4 t).read_unread, read_unread_whole, View.ld_unit_zero zero2, View.ld_unit_zero zero2, View.ld_unit_zero zero2, View.ld_unit_zero zero2]
  refine (show _ = (_ : BitVec 8) from ?_)
  exact bytes_of (nrm x0 x1 xs0 x4) _ rfl (ix3 a g r) g r rfl rfl

/-- The exponent bytes a first point writes. -/
theorem bytes_A (c : Dev nD) (t : Fin cfg0.N) (h0 : cond0_0 (grid0.coords t))
    (x0 : Vec Ideal S256x4096 .bf16) (x1 : Vec Ideal S256x2560 .bf16) (x2 : Vec Ideal S4096x2560 .fp8e4m3) (x3 : Vec Ideal S128x2560 .i8) (x4 : Vec Ideal S1x2560 .f32) (a : Fin 1) (g : Fin 80) (r : Fin 256) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 x3 x4 (ix3 a g r)
      = (BitVec.setWidth 8 (expK (normGrp (nrm x0 x1 (wts x2 x3) x4) r g)) : BitVec 8) := by
  frame_out
  rw [(hs0_0 t).read_unread, (hs0_1 t).read_unread, (hs0_4 t).read_unread, View.ld_unit_zero zero2, View.ld_unit_zero zero2, View.ld_unit_zero zero2]
  rw [(hs0_2 t).read_unread, (hs0_3 t).read_unread, scratch_all]
  generalize hw : (View.canon (Val := Elt Ideal) [(⟨Rect.unit ![3840, 0] ![256, 2560] inb_S4096x2560_S256x2560_3840_0, _⟩ : View.Piece (Elt Ideal) S4096x2560 EltTy.bf16), _, _, _, _, _, _, _, _, _, _, _, _, _, _, _]) = w
  obtain rfl : w = wts x2 x3 := by
    refine Eq.trans ?_ (sout_A c t h0 x0 x1 x2 x3 x4)
    rw [← hw]
    funext y
    symm
    frame_out
  clear hw
  generalize wts x2 x3 = w
  refine (show _ = (_ : BitVec 8) from ?_)
  exact bytes_of (nrm x0 x1 w x4) _ rfl (ix3 a g r) g r rfl rfl

end Cert.OprojIdeal.Hand

end
-- ==== Proof.OprojFinal.lean ====
/- The four arrays the output projection leaves, in terms of its arguments. -/
module

public import proofs.«01_k».proof.Proof.OprojBytes

@[expose] public section

set_option maxRecDepth 16384
set_option maxHeartbeats 4000000

noncomputable section

open Idealize.ShloMosaic Idealize.ShloMosaic.TcCoe Idealize.SL.Sem

namespace Cert.OprojIdeal.Hand

open Cert.OprojIdeal Cert.OprojIdeal.Gen Cert.Hand Cert.GuIdeal.Hand

/-- The block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0]
    ∧ win0_6.index t = ![t.val, 0] ∧ win0_7.index t = ![t.val / 4, 0, t.val % 4] ∧ win0_8.index t = ![t.val, 0] :=
  (by decide +kernel : ∀ t : Fin grid0.N, _)

/-- The residual stream of row `p` and column `n`: the input plus the contraction with the scaled weights. -/
def hid (a0 : Vec Ideal S2048x4096 .bf16) (a1 : Vec Ideal S2048x2560 .bf16) (a2 : Vec Ideal S4096x2560 .fp8e4m3) (a3 : Vec Ideal S128x2560 .i8) (p : Fin 2048) (n : Fin 2560) : EReal :=
  a1 (ix2 p n) + ∑ k : Fin 4096, (a0 (ix2 p k) * wts a2 a3 (ix2 k n) : EReal)

/-- Its norm. -/
def nor (a0 : Vec Ideal S2048x4096 .bf16) (a1 : Vec Ideal S2048x2560 .bf16) (a2 : Vec Ideal S4096x2560 .fp8e4m3) (a3 : Vec Ideal S128x2560 .i8) (a4 : Vec Ideal S2560 .f32) (p : Fin 2048) (n : Fin 2560) : EReal := normV (hid a0 a1 a2 a3 p) (a4 (ix1 n)) n

/-- The group of 32 values of the norm of row `p` with number `g`. -/
def ngrp (a0 : Vec Ideal S2048x4096 .bf16) (a1 : Vec Ideal S2048x2560 .bf16) (a2 : Vec Ideal S4096x2560 .fp8e4m3) (a3 : Vec Ideal S128x2560 .i8) (a4 : Vec Ideal S2560 .f32) (p : Fin 2048) (g : Fin 80) (i : Fin 32) : EReal :=
  nor a0 a1 a2 a3 a4 p (⟨g.val * 32 + i.val, by omega⟩ : Fin 2560)

/-- The code array. -/
def codes (a0 : Vec Ideal S2048x4096 .bf16) (a1 : Vec Ideal S2048x2560 .bf16) (a2 : Vec Ideal S4096x2560 .fp8e4m3) (a3 : Vec Ideal S128x2560 .i8) (a4 : Vec Ideal S2560 .f32) (p : Fin 2048) (n : Fin 2560) : EReal :=
  codeK (ngrp a0 a1 a2 a3 a4 p (⟨n.val / 32, by omega⟩ : Fin 80)) (nor a0 a1 a2 a3 a4 p n)

/-- The array of what the codes stand for. -/
def back (a0 : Vec Ideal S2048x4096 .bf16) (a1 : Vec Ideal S2048x2560 .bf16) (a2 : Vec Ideal S4096x2560 .fp8e4m3) (a3 : Vec Ideal S128x2560 .i8) (a4 : Vec Ideal S2560 .f32) (p : Fin 2048) (n : Fin 2560) : EReal :=
  backK (ngrp a0 a1 a2 a3 a4 p (⟨n.val / 32, by omega⟩ : Fin 80)) (nor a0 a1 a2 a3 a4 p n)

/-- The array of exponent bytes: for each half of the rows, one line per group. -/
def bytes (a0 : Vec Ideal S2048x4096 .bf16) (a1 : Vec Ideal S2048x2560 .bf16) (a2 : Vec Ideal S4096x2560 .fp8e4m3) (a3 : Vec Ideal S128x2560 .i8) (a4 : Vec Ideal S2560 .f32) (b : Fin 2) (g : Fin 80) (r : Fin 1024) : BitVec 8 :=
  BitVec.setWidth 8 (expK (ngrp a0 a1 a2 a3 a4 (⟨b.val * 1024 + r.val, by omega⟩ : Fin 2048) g))

variable (m : (ℓ : Loc nD τ sig) → Buf (Elt Ideal) ℓ) (c : Dev nD)

/-- The attention outputs. -/
abbrev A0 : Vec Ideal S2048x4096 .bf16 := m (c, Proc.tc.devRef main_arg0)
/-- The layer's input. -/
abbrev A1 : Vec Ideal S2048x2560 .bf16 := m (c, Proc.tc.devRef main_arg1)
/-- The weight codes. -/
abbrev A2 : Vec Ideal S4096x2560 .fp8e4m3 := m (c, Proc.tc.devRef main_arg2)
/-- The weight exponents. -/
abbrev A3 : Vec Ideal S128x2560 .i8 := m (c, Proc.tc.devRef main_arg3)
/-- The gain of the norm. -/
abbrev A4 : Vec Ideal S2560 .f32 := m (c, Proc.tc.devRef main_arg4)

/-- A point's attention outputs. -/
def oblk (t : Fin cfg0.N) : Vec Ideal S256x4096 .bf16 := iblk m c 0 t
/-- A point's inputs. -/
def xblk (t : Fin cfg0.N) : Vec Ideal S256x2560 .bf16 := iblk m c 1 t
/-- A point's weight codes. -/
def wblk (t : Fin cfg0.N) : Vec Ideal S4096x2560 .fp8e4m3 := iblk m c 2 t
/-- A point's weight exponents. -/
def eblk (t : Fin cfg0.N) : Vec Ideal S128x2560 .i8 := iblk m c 3 t
/-- A point's gain. -/
def gblk (t : Fin cfg0.N) : Vec Ideal S1x2560 .f32 := iblk m c 4 t

/-- The gain as the kernel reads it: the host lays it out as one row. -/
theorem gain_row : V m c main_v0 = shapeCast S1x2560 (m (c, Proc.tc.devRef main_arg4)) shapeCasts_S2560_S1x2560 := by
  dsimp only [V, hostOps0, List.flatten_cons, List.flatten_nil, List.append_nil, List.cons_append, List.nil_append]
  rw [StableHlo.after_cons, StableHlo.after_nil]
  rw [StableHlo.reshape_result']
  rfl

/-- A point's attention outputs, in the whole array. -/
theorem oblk_at (t : Fin cfg0.N) (r : Fin 256) (k : Fin 4096) (p : Fin 2048) (hp : p.val = 256 * t.val + r.val) :
    oblk m c t (ix2 r k) = A0 m c (ix2 p k) := by
  rw [show A0 m c = V m c main_arg0 from (V_main_arg0 m c).symm]
  unfold oblk
  blk_point [iblk, idx t]

/-- A point's inputs, in the whole array. -/
theorem xblk_at (t : Fin cfg0.N) (r : Fin 256) (n : Fin 2560) (p : Fin 2048) (hp : p.val = 256 * t.val + r.val) :
    xblk m c t (ix2 r n) = A1 m c (ix2 p n) := by
  rw [show A1 m c = V m c main_arg1 from (V_main_arg1 m c).symm]
  unfold xblk
  blk_point [iblk, idx t]

/-- Every point reads all weight codes. -/
theorem wblk_eq (t : Fin cfg0.N) : wblk m c t = A2 m c := by
  rw [show A2 m c = V m c main_arg2 from (V_main_arg2 m c).symm]
  funext y
  idx_vars y
  unfold wblk
  blk_point [iblk, idx t]

/-- Every point reads all weight exponents. -/
theorem eblk_eq (t : Fin cfg0.N) : eblk m c t = A3 m c := by
  rw [show A3 m c = V m c main_arg3 from (V_main_arg3 m c).symm]
  funext y
  idx_vars y
  unfold eblk
  blk_point [iblk, idx t]

/-- Every point reads the whole gain. -/
theorem gblk_at (t : Fin cfg0.N) (n : Fin 2560) : gblk m c t (ix2 (0 : Fin 1) n) = A4 m c (ix1 n) := by
  have e : gblk m c t (ix2 (0 : Fin 1) n) = V m c main_v0 (ix2 (0 : Fin 1) n) := by
    unfold gblk
    blk_point [iblk, idx t]
  rw [e, gain_row]
  pointwise

/-- After every point the scratch holds the widened weights. -/
theorem scratch (n : ℕ) (h : n < cfg0.N) : (outsAt0 m c n h).2.2.2.2 = wts (A2 m c) (A3 m c) := by
  induction n with
  | zero =>
    have e := congrArg (fun z => z.2.2.2.2) (outsAt0_A m c ⟨0, h⟩ (Nat.zero_mod _))
    dsimp only at e
    refine e.trans ((sout_A c ⟨0, h⟩ _ (oblk m c ⟨0, h⟩) (xblk m c ⟨0, h⟩) (wblk m c ⟨0, h⟩) (eblk m c ⟨0, h⟩) (gblk m c ⟨0, h⟩)).trans ?_)
    rw [wblk_eq, eblk_eq]
  | succ n ih =>
    have hN : n + 1 < 8 := lt_of_lt_of_eq h N_0
    have e := congrArg (fun z => z.2.2.2.2) (outsAt0_B m c ⟨n + 1, h⟩ (by dsimp only; omega))
    dsimp only at e
    refine e.trans ?_
    exact ih _

/-- The norm a point computes. -/
def zblk (t : Fin cfg0.N) : FVec Ideal S256x2560 .f32 := nrm (oblk m c t) (xblk m c t) (wts (A2 m c) (A3 m c)) (gblk m c t)

/-- The residual stream a point leaves. -/
theorem pt5 (t : Fin cfg0.N) (r : Fin 256) (n : Fin 2560) :
    (outsAt0 m c t.val t.isLt).1 (ix2 r n) = (hval (xblk m c t) (oblk m c t) (wts (A2 m c) (A3 m c)) r n : EReal) := by
  by_cases h : t.val % 8 = 0
  · have e := congrArg (fun z => z.1) (outsAt0_A m c t h)
    dsimp only at e
    rw [e]
    refine (h1_A c t ((hcond0_0 t).mpr h) (oblk m c t) (xblk m c t) (wblk m c t) (eblk m c t) (gblk m c t) r n).trans ?_
    rw [wblk_eq, eblk_eq]
  · have e := congrArg (fun z => z.1) (outsAt0_B m c t h)
    dsimp only at e
    rw [e]
    refine (h1_B c t (fun h' => h ((hcond0_0 t).mp h')) (oblk m c t) (xblk m c t) (wblk m c t) (eblk m c t) (gblk m c t) _ r n).trans ?_
    rw [scratch]

/-- The codes a point leaves. -/
theorem pt6 (t : Fin cfg0.N) (r : Fin 256) (n : Fin 2560) :
    (outsAt0 m c t.val t.isLt).2.1 (ix2 r n) = (codeK (normGrp (zblk m c t) r ⟨n.val / 32, by omega⟩) ((zblk m c t) (ix2 r n)) : EReal) := by
  by_cases h : t.val % 8 = 0
  · have e := congrArg (fun z => z.2.1) (outsAt0_A m c t h)
    dsimp only at e
    rw [e]
    refine (codes_A c t ((hcond0_0 t).mpr h) (oblk m c t) (xblk m c t) (wblk m c t) (eblk m c t) (gblk m c t) r n).trans ?_
    rw [wblk_eq, eblk_eq]
    rfl
  · have e := congrArg (fun z => z.2.1) (outsAt0_B m c t h)
    dsimp only at e
    rw [e]
    refine (codes_B c t (fun h' => h ((hcond0_0 t).mp h')) (oblk m c t) (xblk m c t) (wblk m c t) (eblk m c t) (gblk m c t) _ r n).trans ?_
    rw [scratch]
    rfl

/-- What the codes a point leaves stand for. -/
theorem pt8 (t : Fin cfg0.N) (r : Fin 256) (n : Fin 2560) :
    (outsAt0 m c t.val t.isLt).2.2.2.1 (ix2 r n) = (backK (normGrp (zblk m c t) r ⟨n.val / 32, by omega⟩) ((zblk m c t) (ix2 r n)) : EReal) := by
  by_cases h : t.val % 8 = 0
  · have e := congrArg (fun z => z.2.2.2.1) (outsAt0_A m c t h)
    dsimp only at e
    rw [e]
    refine (back_A c t ((hcond0_0 t).mpr h) (oblk m c t) (xblk m c t) (wblk m c t) (eblk m c t) (gblk m c t) r n).trans ?_
    rw [wblk_eq, eblk_eq]
    rfl
  · have e := congrArg (fun z => z.2.2.2.1) (outsAt0_B m c t h)
    dsimp only at e
    rw [e]
    refine (back_B c t (fun h' => h ((hcond0_0 t).mp h')) (oblk m c t) (xblk m c t) (wblk m c t) (eblk m c t) (gblk m c t) _ r n).trans ?_
    rw [scratch]
    rfl

/-- The exponent bytes a point leaves. -/
theorem pt7 (t : Fin cfg0.N) (a : Fin 1) (g : Fin 80) (r : Fin 256) :
    (outsAt0 m c t.val t.isLt).2.2.1 (ix3 a g r) = (BitVec.setWidth 8 (expK (normGrp (zblk m c t) r g)) : BitVec 8) := by
  by_cases h : t.val % 8 = 0
  · have e := congrArg (fun z => z.2.2.1) (outsAt0_A m c t h)
    dsimp only at e
    rw [e]
    refine (bytes_A c t ((hcond0_0 t).mpr h) (oblk m c t) (xblk m c t) (wblk m c t) (eblk m c t) (gblk m c t) a g r).trans ?_
    rw [wblk_eq, eblk_eq]
    rfl
  · have e := congrArg (fun z => z.2.2.1) (outsAt0_B m c t h)
    dsimp only at e
    rw [e]
    refine (bytes_B c t (fun h' => h ((hcond0_0 t).mp h')) (oblk m c t) (xblk m c t) (wblk m c t) (eblk m c t) (gblk m c t) _ a g r).trans ?_
    rw [scratch]
    rfl

/-- A point's residual stream, in the whole arrays. -/
theorem hval_at (t : Fin cfg0.N) (r : Fin 256) (p : Fin 2048) (hp : p.val = 256 * t.val + r.val) :
    hval (xblk m c t) (oblk m c t) (wts (A2 m c) (A3 m c)) r = hid (A0 m c) (A1 m c) (A2 m c) (A3 m c) p := by
  funext n
  unfold hval hid
  rw [xblk_at m c t r n p hp]
  refine congrArg (fun s : EReal => A1 m c (ix2 p n) + s) (Finset.sum_congr rfl fun k _ => ?_)
  rw [oblk_at m c t r k p hp]

/-- A point's norm, in the whole arrays. -/
theorem zblk_at (t : Fin cfg0.N) (r : Fin 256) (n : Fin 2560) (p : Fin 2048) (hp : p.val = 256 * t.val + r.val) :
    zblk m c t (ix2 r n) = nor (A0 m c) (A1 m c) (A2 m c) (A3 m c) (A4 m c) p n := by
  unfold zblk nor
  rw [nrm_at, hval_at m c t r p hp, gblk_at]

/-- A point's group, in the whole arrays. -/
theorem zgrp_at (t : Fin cfg0.N) (r : Fin 256) (g : Fin 80) (p : Fin 2048) (hp : p.val = 256 * t.val + r.val) :
    normGrp (zblk m c t) r g = ngrp (A0 m c) (A1 m c) (A2 m c) (A3 m c) (A4 m c) p g := by
  funext i
  exact zblk_at m c t r _ p hp

/-- The residual stream after the run. -/
theorem final5 : (dats m 0 c).arrAt 5 cfg0.N = fun y => hid (A0 m c) (A1 m c) (A2 m c) (A3 m c) (y 0) (y 1) := by
  refine (dats m 0 c).arrAt_eq_of_covers 5 _ (by decide +kernel) fun t hf y => ?_
  blk_simp
  rw [after0_5]
  idx_vars y
  have hN : t.val < 8 := lt_of_lt_of_eq t.isLt N_0
  have hy : 256 * t.val + y0.val < 2048 := by omega
  have e0 : (((View.whole main_v1_0).slice (win0_5.rect t)).emb (ix2 y0 y1) 0 : Fin 2048) = (⟨256 * t.val + y0.val, hy⟩ : Fin 2048) := by
    apply Fin.ext
    blk_simp [idx t]
    exact congrArg (· + y0.val) (Nat.mul_comm _ _)
  have e1 : (((View.whole main_v1_0).slice (win0_5.rect t)).emb (ix2 y0 y1) 1 : Fin 2560) = y1 := by
    apply Fin.ext
    blk_simp [idx t]
  simp only [e0, e1]
  refine (pt5 m c t y0 y1).trans ?_
  rw [hval_at m c t y0 ⟨256 * t.val + y0.val, hy⟩ rfl]

/-- The code array after the run. -/
theorem final6 : (dats m 0 c).arrAt 6 cfg0.N = fun y => codes (A0 m c) (A1 m c) (A2 m c) (A3 m c) (A4 m c) (y 0) (y 1) := by
  refine (dats m 0 c).arrAt_eq_of_covers 6 _ (by decide +kernel) fun t hf y => ?_
  blk_simp
  rw [after0_6]
  idx_vars y
  have hN : t.val < 8 := lt_of_lt_of_eq t.isLt N_0
  have hy : 256 * t.val + y0.val < 2048 := by omega
  have e0 : (((View.whole main_v1_1).slice (win0_6.rect t)).emb (ix2 y0 y1) 0 : Fin 2048) = (⟨256 * t.val + y0.val, hy⟩ : Fin 2048) := by
    apply Fin.ext
    blk_simp [idx t]
    exact congrArg (· + y0.val) (Nat.mul_comm _ _)
  have e1 : (((View.whole main_v1_1).slice (win0_6.rect t)).emb (ix2 y0 y1) 1 : Fin 2560) = y1 := by
    apply Fin.ext
    blk_simp [idx t]
  simp only [e0, e1]
  refine (pt6 m c t y0 y1).trans ?_
  rw [zgrp_at m c t y0 _ ⟨256 * t.val + y0.val, hy⟩ rfl, zblk_at m c t y0 _ ⟨256 * t.val + y0.val, hy⟩ rfl]
  rfl

/-- The array of what the codes stand for, after the run. -/
theorem final8 : (dats m 0 c).arrAt 8 cfg0.N = fun y => back (A0 m c) (A1 m c) (A2 m c) (A3 m c) (A4 m c) (y 0) (y 1) := by
  refine (dats m 0 c).arrAt_eq_of_covers 8 _ (by decide +kernel) fun t hf y => ?_
  blk_simp
  rw [after0_8]
  idx_vars y
  have hN : t.val < 8 := lt_of_lt_of_eq t.isLt N_0
  have hy : 256 * t.val + y0.val < 2048 := by omega
  have e0 : (((View.whole main_v1_3).slice (win0_8.rect t)).emb (ix2 y0 y1) 0 : Fin 2048) = (⟨256 * t.val + y0.val, hy⟩ : Fin 2048) := by
    apply Fin.ext
    blk_simp [idx t]
    exact congrArg (· + y0.val) (Nat.mul_comm _ _)
  have e1 : (((View.whole main_v1_3).slice (win0_8.rect t)).emb (ix2 y0 y1) 1 : Fin 2560) = y1 := by
    apply Fin.ext
    blk_simp [idx t]
  simp only [e0, e1]
  refine (pt8 m c t y0 y1).trans ?_
  rw [zgrp_at m c t y0 _ ⟨256 * t.val + y0.val, hy⟩ rfl, zblk_at m c t y0 _ ⟨256 * t.val + y0.val, hy⟩ rfl]
  rfl

/-- The array of exponent bytes after the run. -/
theorem final7 : (dats m 0 c).arrAt 7 cfg0.N = fun y => bytes (A0 m c) (A1 m c) (A2 m c) (A3 m c) (A4 m c) (y 0) (y 1) (y 2) := by
  refine (dats m 0 c).arrAt_eq_of_covers 7 _ (by decide +kernel) fun t hf y => ?_
  blk_simp
  rw [after0_7]
  idx_vars y
  have hN : t.val < 8 := lt_of_lt_of_eq t.isLt N_0
  have hb : t.val / 4 < 2 := by omega
  have hy : 256 * (t.val % 4) + y2.val < 1024 := by omega
  have e0 : (((View.whole main_v1_2).slice (win0_7.rect t)).emb (ix3 y0 y1 y2) 0 : Fin 2) = (⟨t.val / 4, hb⟩ : Fin 2) := by
    apply Fin.ext
    blk_simp [idx t]
  have e1 : (((View.whole main_v1_2).slice (win0_7.rect t)).emb (ix3 y0 y1 y2) 1 : Fin 80) = y1 := by
    apply Fin.ext
    blk_simp [idx t]
  have e2 : (((View.whole main_v1_2).slice (win0_7.rect t)).emb (ix3 y0 y1 y2) 2 : Fin 1024) = (⟨256 * (t.val % 4) + y2.val, hy⟩ : Fin 1024) := by
    apply Fin.ext
    blk_simp [idx t]
    exact congrArg (· + y2.val) (Nat.mul_comm _ _)
  simp only [e0, e1, e2]
  refine (pt7 m c t y0 y1 y2).trans ?_
  unfold bytes
  rw [zgrp_at m c t y2 y1 (⟨t.val / 4 * 1024 + (256 * (t.val % 4) + y2.val), by omega⟩ : Fin 2048) (by dsimp only; omega)]

end Cert.OprojIdeal.Hand

end
-- ==== Proof.OprojRef.lean ====
/- The exponents, codes and bytes of the reference of the output projection, as functions of its norm. -/
module

public import proofs.«01_k».proof.Proof.GuRef
public import proofs.«01_k».proof.Proof.RowQuant
public import proofs.«01_k».proof.Proof.Gen.OprojRefIdeal.Value
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.OprojRefIdeal.Hand

open Cert.OprojRefIdeal Cert.OprojRefIdeal.Gen Cert.Hand

/-- The largest magnitude of each group of `h`. -/
def magOf (h : FVec Ideal S2048x80x32 .f32) : FVec Ideal S2048x80 .f32 :=
  multiReduction .maximumf [2] S2048x80 (absf h) 0xFF800000#32 reduces_S2048x80x32_S2048x80 (.inl rfl) rfl

/-- A value over 448. -/
def overOf (v : FVec Ideal S2048x80 .f32) : FVec Ideal S2048x80 .f32 := mulf v (broadcast S2048x80 (Scalar.ofBits .f32 0x3B124925#32))

/-- The largest magnitude of each group, over 448. -/
def amaxOf (h : FVec Ideal S2048x80x32 .f32) : FVec Ideal S2048x80 .f32 := overOf (magOf h)

/-- The logarithm to base two. -/
def logOf (v : FVec Ideal S2048x80 .f32) : FVec Ideal S2048x80 .f32 := divf (log v) (broadcast S2048x80 (Scalar.log (Scalar.ofBits .f32 0x40000000#32)))

/-- The exponents of the groups of `h`. -/
def expsOf (h : FVec Ideal S2048x80x32 .f32) : FVec Ideal S2048x80 .f32 := k0_pay6 (F := Ideal) (amaxOf h) (logOf (amaxOf h)) (Scalar.ofBits .f32 0x00800000#32)

/-- A largest magnitude at an index. -/
theorem magOf_at (h : FVec Ideal S2048x80x32 .f32) (p : Fin 2048) (g : Fin 80) : magOf h (ix2 p g)
    = (Finset.fold max (Ideal.ofBits FTy.f32 4286578688#32) (fun i => (FloatOps.absf (F := Ideal) (φ := FTy.f32) (h (ix3 p g i)) : EReal)) Finset.univ : EReal) :=
  Cert.GuRefIdeal.Hand.max_last (absf h) 0xFF800000#32 reduces_S2048x80x32_S2048x80 (.inl rfl) rfl p g

/-- A value over 448 at an index. -/
theorem overOf_at (v : FVec Ideal S2048x80 .f32) (p : Fin 2048) (g : Fin 80) : overOf v (ix2 p g) = (v (ix2 p g) * Ideal.ofBits FTy.f32 991054117#32 : EReal) := rfl

/-- A largest magnitude over 448 at an index. -/
theorem amaxOf_at (h : FVec Ideal S2048x80x32 .f32) (p : Fin 2048) (g : Fin 80) : amaxOf h (ix2 p g) = (amaxK fun i => h (ix3 p g i) : EReal) := by
  unfold amaxOf amaxK
  rw [overOf_at, magOf_at]

/-- An exponent at an index, from the largest magnitude. -/
theorem expOf_at (v : FVec Ideal S2048x80 .f32) (p : Fin 2048) (g : Fin 80) :
    k0_pay6 (F := Ideal) v (logOf v) (Scalar.ofBits .f32 0x00800000#32) (ix2 p g) = (expR (v (ix2 p g)) : EReal) := by
  unfold expR
  pointwise [k0_pay6, logOf]
  rfl

/-- An exponent at an index. -/
theorem expsOf_at (h : FVec Ideal S2048x80x32 .f32) (p : Fin 2048) (g : Fin 80) : expsOf h (ix2 p g) = (expR (amaxK fun i => h (ix3 p g i)) : EReal) :=
  (expOf_at _ p g).trans (congrArg expR (amaxOf_at h p g))

/-- The codes at an index, from the exponents. -/
theorem code_at (h : FVec Ideal S2048x80x32 .f32) (a l : FVec Ideal S2048x80 .f32) (k : Ideal .f32) (p : Fin 2048) (n : Fin 2560) : k0_pay9 (F := Ideal) h a l k (ix2 p n)
    = (min (Ideal.ofBits FTy.f32 1138753536#32) (max (Ideal.ofBits FTy.f32 3286237184#32) (h (ix3 p (⟨n.val / 32, by omega⟩ : Fin 80) (⟨n.val % 32, by omega⟩ : Fin 32))
        * Ideal.exp2 (0 - k0_pay6 (F := Ideal) a l k (ix2 p (⟨n.val / 32, by omega⟩ : Fin 80))))) : EReal) := by
  pointwise [k0_pay9, k0_pay7]
  rfl

/-- What the codes stand for at an index, from the exponents. -/
theorem wide_at (h : FVec Ideal S2048x80x32 .f32) (a l : FVec Ideal S2048x80 .f32) (k : Ideal .f32) (p : Fin 2048) (n : Fin 2560) : k0_pay10 (F := Ideal) h a l k (ix2 p n)
    = (min (Ideal.ofBits FTy.f32 1138753536#32) (max (Ideal.ofBits FTy.f32 3286237184#32) (h (ix3 p (⟨n.val / 32, by omega⟩ : Fin 80) (⟨n.val % 32, by omega⟩ : Fin 32))
        * Ideal.exp2 (0 - k0_pay6 (F := Ideal) a l k (ix2 p (⟨n.val / 32, by omega⟩ : Fin 80)))))
        * Ideal.exp2 (k0_pay6 (F := Ideal) a l k (ix2 p (⟨n.val / 32, by omega⟩ : Fin 80))) : EReal) := by
  pointwise [k0_pay10, k0_pay7]
  rfl

/-- The bytes at an index, from the exponents. -/
theorem byte_at (a l : FVec Ideal S2048x80 .f32) (k : Ideal .f32) (b : Fin 2) (g : Fin 80) (r : Fin 1024) :
    (View.canon (Val := Elt Ideal) (e := EltTy.i8) [⟨r0_6, k0_pay1 (k0_pay12 (F := Ideal) a l k)⟩, ⟨r0_5, k0_pay11 (F := Ideal) a l k⟩] (ix3 b g r) : BitVec 8)
      = (BitVec.setWidth 8 (IntOp.addi (FloatOps.fptosi (F := Ideal) (φ := FTy.f32) 32 (k0_pay6 (F := Ideal) a l k (ix2 (⟨b.val * 1024 + r.val, by omega⟩ : Fin 2048) g))) 127#32) : BitVec 8) := by
  unfold k0_pay12 k0_pay11 k0_pay8
  generalize k0_pay6 (F := Ideal) a l k = e
  canon_tiles x h
  all_goals
    refine (show _ = (_ : BitVec 8) from ?_)
    pointwise [k0_pay1]
  all_goals
    have hb : b.val = _ := ‹((ix3 b g r) 0).val = _›
    have hg : g.val = _ := ‹((ix3 b g r) 1).val = _›
    have hr : r.val = _ := ‹((ix3 b g r) 2).val = _›
    blk_point

section
variable (x0 : Vec Ideal S2048x4096 .bf16) (x1 : Vec Ideal S2048x2560 .bf16) (x2 : Vec Ideal S4096x2560 .fp8e4m3) (x3 : Vec Ideal S128x2560 .i8) (x4 : Vec Ideal S1x2560 .f32)

/-- The reference's norm, in groups. -/
def H : FVec Ideal S2048x80x32 .f32 := k0_pay3 (F := Ideal) x3 x2 x1 x0 x4

/-- The reference's residual stream: the scale is two to the stored exponent less 127. -/
def hidR (p : Fin 2048) (n : Fin 2560) : EReal :=
  x1 (ix2 p n) + ∑ k : Fin 4096, (x0 (ix2 p k) * (x2 (ix2 k n) * Ideal.exp2 (((BitVec.setWidth 32 (x3 (ix2 (⟨k.val / 32, by omega⟩ : Fin 128) n)) - 127#32).toInt : ℝ) : EReal)) : EReal)

/-- The reference's residual stream at an index. -/
theorem hid_at (p : Fin 2048) (n : Fin 2560) : k0_pay2 (F := Ideal) x3 x2 x1 x0 (ix2 p n) = hidR x0 x1 x2 x3 p n := by
  unfold hidR
  pointwise [k0_pay2]
  rfl

/-- The reference's norm at an index. -/
theorem H_at (p : Fin 2048) (g : Fin 80) (i : Fin 32) : H x0 x1 x2 x3 x4 (ix3 p g i)
    = normV (hidR x0 x1 x2 x3 p) (x4 (ix2 (0 : Fin 1) (⟨g.val * 32 + i.val, by omega⟩ : Fin 2560))) ⟨g.val * 32 + i.val, by omega⟩ := by
  have e : hidR x0 x1 x2 x3 p = fun n => k0_pay2 (F := Ideal) x3 x2 x1 x0 (ix2 p n) := funext fun n => (hid_at x0 x1 x2 x3 p n).symm
  rw [e]
  unfold normV H
  generalize hz : k0_pay2 (F := Ideal) x3 x2 x1 x0 = z
  unfold k0_pay3
  rw [hz]
  pointwise

/-- The largest magnitudes are those of the norm. -/
theorem pay4_eq : k0_pay4 (F := Ideal) x3 x2 x1 x0 x4 = amaxOf (H x0 x1 x2 x3 x4) := rfl

/-- The logarithms are those of the largest magnitudes. -/
theorem pay5_eq : k0_pay5 (F := Ideal) x3 x2 x1 x0 x4 = logOf (k0_pay4 (F := Ideal) x3 x2 x1 x0 x4) := rfl

/-- Two zeros. -/
theorem zero2 : (![0, 0] : Fin 2 → Nat) = fun _ => 0 := by decide

/-- The norm the reference stores is that of its arguments. -/
theorem pay13_eq : k0_pay13 (F := Ideal) x0 x1 x2 x3 x4 = H x0 x1 x2 x3 x4 := by
  unfold k0_pay13 H
  rw [View.ld_unit_zero zero2, View.ld_unit_zero zero2, View.ld_unit_zero zero2, View.ld_unit_zero zero2, View.ld_unit_zero zero2]

/-- The largest magnitudes are those of the arguments' norm. -/
theorem pay14_eq : k0_pay14 (F := Ideal) x0 x1 x2 x3 x4 = amaxOf (H x0 x1 x2 x3 x4) := by
  unfold k0_pay14
  rw [View.ld_unit_zero zero2, View.ld_unit_zero zero2, View.ld_unit_zero zero2, View.ld_unit_zero zero2, View.ld_unit_zero zero2, pay4_eq]

/-- The logarithms are those of the arguments' norm. -/
theorem pay15_eq : k0_pay15 (F := Ideal) x0 x1 x2 x3 x4 = logOf (amaxOf (H x0 x1 x2 x3 x4)) := by
  unfold k0_pay15
  rw [View.ld_unit_zero zero2, View.ld_unit_zero zero2, View.ld_unit_zero zero2, View.ld_unit_zero zero2, View.ld_unit_zero zero2, pay5_eq, pay4_eq]

/-- The residual stream the reference leaves. -/
theorem out5_at (p : Fin 2048) (n : Fin 2560) : out0_5 (F := Ideal) x0 x1 x2 x3 x4 (ix2 p n) = hidR x0 x1 x2 x3 p n := by
  unfold out0_5
  rw [View.ld_unit_zero zero2, View.ld_unit_zero zero2, View.ld_unit_zero zero2, View.ld_unit_zero zero2, View.canon_unit_zero zero2]
  exact hid_at x0 x1 x2 x3 p n

/-- The codes the reference leaves. -/
theorem out6_at (p : Fin 2048) (n : Fin 2560) : out0_6 (F := Ideal) x0 x1 x2 x3 x4 (ix2 p n)
    = codeK (fun i => H x0 x1 x2 x3 x4 (ix3 p (⟨n.val / 32, by omega⟩ : Fin 80) i)) (H x0 x1 x2 x3 x4 (ix3 p (⟨n.val / 32, by omega⟩ : Fin 80) (⟨n.val % 32, by omega⟩ : Fin 32))) := by
  unfold out0_6
  rw [View.canon_unit_zero zero2, pay13_eq, pay14_eq, pay15_eq]
  refine (code_at _ _ _ _ p n).trans ?_
  rw [expOf_at, amaxOf_at]
  unfold codeK
  rw [scale_eq]

/-- What the codes that the reference leaves stand for. -/
theorem out8_at (p : Fin 2048) (n : Fin 2560) : out0_8 (F := Ideal) x0 x1 x2 x3 x4 (ix2 p n)
    = backK (fun i => H x0 x1 x2 x3 x4 (ix3 p (⟨n.val / 32, by omega⟩ : Fin 80) i)) (H x0 x1 x2 x3 x4 (ix3 p (⟨n.val / 32, by omega⟩ : Fin 80) (⟨n.val % 32, by omega⟩ : Fin 32))) := by
  unfold out0_8
  rw [View.canon_unit_zero zero2, pay13_eq, pay14_eq, pay15_eq]
  refine (wide_at _ _ _ _ p n).trans ?_
  rw [expOf_at, amaxOf_at]
  unfold backK codeK
  rw [back_scale_eq, scale_eq]

/-- The bytes the reference leaves. -/
theorem out7_at (b : Fin 2) (g : Fin 80) (r : Fin 1024) : (out0_7 (F := Ideal) x0 x1 x2 x3 x4 (ix3 b g r) : BitVec 8)
    = BitVec.setWidth 8 (expK fun i => H x0 x1 x2 x3 x4 (ix3 (⟨b.val * 1024 + r.val, by omega⟩ : Fin 2048) g i)) := by
  unfold out0_7
  rw [pay14_eq, pay15_eq]
  refine (byte_at _ _ _ b g r).trans ?_
  rw [expOf_at, amaxOf_at, byte_scale_eq]

end

/-- The reference's norm of row `p`, value `i` of group `g`. -/
def norR (a0 : Vec Ideal S2048x4096 .bf16) (a1 : Vec Ideal S2048x2560 .bf16) (a2 : Vec Ideal S4096x2560 .fp8e4m3) (a3 : Vec Ideal S128x2560 .i8) (a4 : Vec Ideal S2560 .f32) (p : Fin 2048) (g : Fin 80) (i : Fin 32) : EReal :=
  normV (hidR a0 a1 a2 a3 p) (a4 (ix1 (⟨g.val * 32 + i.val, by omega⟩ : Fin 2560))) ⟨g.val * 32 + i.val, by omega⟩

/-- The reference's codes. -/
def codesR (a0 : Vec Ideal S2048x4096 .bf16) (a1 : Vec Ideal S2048x2560 .bf16) (a2 : Vec Ideal S4096x2560 .fp8e4m3) (a3 : Vec Ideal S128x2560 .i8) (a4 : Vec Ideal S2560 .f32) (p : Fin 2048) (n : Fin 2560) : EReal :=
  codeK (norR a0 a1 a2 a3 a4 p (⟨n.val / 32, by omega⟩ : Fin 80)) (norR a0 a1 a2 a3 a4 p (⟨n.val / 32, by omega⟩ : Fin 80) (⟨n.val % 32, by omega⟩ : Fin 32))

/-- What the reference's codes stand for. -/
def backR (a0 : Vec Ideal S2048x4096 .bf16) (a1 : Vec Ideal S2048x2560 .bf16) (a2 : Vec Ideal S4096x2560 .fp8e4m3) (a3 : Vec Ideal S128x2560 .i8) (a4 : Vec Ideal S2560 .f32) (p : Fin 2048) (n : Fin 2560) : EReal :=
  backK (norR a0 a1 a2 a3 a4 p (⟨n.val / 32, by omega⟩ : Fin 80)) (norR a0 a1 a2 a3 a4 p (⟨n.val / 32, by omega⟩ : Fin 80) (⟨n.val % 32, by omega⟩ : Fin 32))

/-- The reference's bytes. -/
def bytesR (a0 : Vec Ideal S2048x4096 .bf16) (a1 : Vec Ideal S2048x2560 .bf16) (a2 : Vec Ideal S4096x2560 .fp8e4m3) (a3 : Vec Ideal S128x2560 .i8) (a4 : Vec Ideal S2560 .f32) (b : Fin 2) (g : Fin 80) (r : Fin 1024) : BitVec 8 :=
  BitVec.setWidth 8 (expK (norR a0 a1 a2 a3 a4 (⟨b.val * 1024 + r.val, by omega⟩ : Fin 2048) g))

variable (m : (ℓ : Loc nD τ sig) → Buf (Elt Ideal) ℓ) (c : Dev nD)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0, 0] ∧ win0_8.index t = ![0, 0] :=
  (by decide +kernel : ∀ t : Fin grid0.N, _)

/-- The gain as the reference reads it: the host lays it out as one row. -/
theorem gain_row : V m c main_v0 = shapeCast S1x2560 (m (c, Proc.tc.devRef main_arg4)) shapeCasts_S2560_S1x2560 := by
  dsimp only [V, hostOps0, List.flatten_cons, List.flatten_nil, List.append_nil, List.cons_append, List.nil_append]
  rw [StableHlo.after_cons, StableHlo.after_nil]
  rw [StableHlo.reshape_result']
  rfl

/-- Window 0 is argument 0. -/
theorem in0 (t : Fin cfg0.N) : (iblk m c 0 t : Vec Ideal S2048x4096 .bf16) = m (c, Proc.tc.devRef main_arg0) := by
  refine Eq.trans ?_ (V_main_arg0 m c)
  funext y
  idx_vars y
  blk_point [iblk, idx t]

/-- Window 1 is argument 1. -/
theorem in1 (t : Fin cfg0.N) : (iblk m c 1 t : Vec Ideal S2048x2560 .bf16) = m (c, Proc.tc.devRef main_arg1) := by
  refine Eq.trans ?_ (V_main_arg1 m c)
  funext y
  idx_vars y
  blk_point [iblk, idx t]

/-- Window 2 is argument 2. -/
theorem in2 (t : Fin cfg0.N) : (iblk m c 2 t : Vec Ideal S4096x2560 .fp8e4m3) = m (c, Proc.tc.devRef main_arg2) := by
  refine Eq.trans ?_ (V_main_arg2 m c)
  funext y
  idx_vars y
  blk_point [iblk, idx t]

/-- Window 3 is argument 3. -/
theorem in3 (t : Fin cfg0.N) : (iblk m c 3 t : Vec Ideal S128x2560 .i8) = m (c, Proc.tc.devRef main_arg3) := by
  refine Eq.trans ?_ (V_main_arg3 m c)
  funext y
  idx_vars y
  blk_point [iblk, idx t]

/-- The reference's gain at an index. -/
theorem in4 (t : Fin cfg0.N) (n : Fin 2560) : (iblk m c 4 t : Vec Ideal S1x2560 .f32) (ix2 (0 : Fin 1) n) = (m (c, Proc.tc.devRef main_arg4) : Vec Ideal S2560 .f32) (ix1 n) := by
  have e : (iblk m c 4 t : Vec Ideal S1x2560 .f32) (ix2 (0 : Fin 1) n) = V m c main_v0 (ix2 (0 : Fin 1) n) := by
    blk_point [iblk, idx t]
  rw [e, gain_row]
  pointwise

/-- The reference's norm, in the whole arrays. -/
theorem H_in (t : Fin cfg0.N) (p : Fin 2048) (g : Fin 80) (i : Fin 32) :
    H (iblk m c 0 t) (iblk m c 1 t) (iblk m c 2 t) (iblk m c 3 t) (iblk m c 4 t) (ix3 p g i) = norR (m (c, Proc.tc.devRef main_arg0)) (m (c, Proc.tc.devRef main_arg1)) (m (c, Proc.tc.devRef main_arg2)) (m (c, Proc.tc.devRef main_arg3)) (m (c, Proc.tc.devRef main_arg4)) p g i := by
  unfold norR
  rw [H_at, in4, in0, in1, in2, in3]

/-- The residual stream after the reference has run. -/
theorem final5 : (dats m 0 c).arrAt 5 cfg0.N = fun y => hidR (m (c, Proc.tc.devRef main_arg0)) (m (c, Proc.tc.devRef main_arg1)) (m (c, Proc.tc.devRef main_arg2)) (m (c, Proc.tc.devRef main_arg3)) (y 0) (y 1) := by
  refine (dats m 0 c).arrAt_eq_of_covers 5 _ (by decide +kernel) fun t hf y => ?_
  blk_simp
  rw [after0_5]
  idx_vars y
  have e0 : (((View.whole main_v1_0).slice (win0_5.rect t)).emb (ix2 y0 y1) 0 : Fin 2048) = y0 := by
    apply Fin.ext
    blk_simp [idx t]
  have e1 : (((View.whole main_v1_0).slice (win0_5.rect t)).emb (ix2 y0 y1) 1 : Fin 2560) = y1 := by
    apply Fin.ext
    blk_simp [idx t]
  simp only [e0, e1]
  rw [out5_at, in0, in1, in2, in3]

/-- The codes after the reference has run. -/
theorem final6 : (dats m 0 c).arrAt 6 cfg0.N = fun y => codesR (m (c, Proc.tc.devRef main_arg0)) (m (c, Proc.tc.devRef main_arg1)) (m (c, Proc.tc.devRef main_arg2)) (m (c, Proc.tc.devRef main_arg3)) (m (c, Proc.tc.devRef main_arg4)) (y 0) (y 1) := by
  refine (dats m 0 c).arrAt_eq_of_covers 6 _ (by decide +kernel) fun t hf y => ?_
  blk_simp
  rw [after0_6]
  idx_vars y
  have e0 : (((View.whole main_v1_1).slice (win0_6.rect t)).emb (ix2 y0 y1) 0 : Fin 2048) = y0 := by
    apply Fin.ext
    blk_simp [idx t]
  have e1 : (((View.whole main_v1_1).slice (win0_6.rect t)).emb (ix2 y0 y1) 1 : Fin 2560) = y1 := by
    apply Fin.ext
    blk_simp [idx t]
  simp only [e0, e1]
  refine (out6_at _ _ _ _ _ y0 y1).trans ?_
  simp only [H_in]
  rfl

/-- What the codes stand for after the reference has run. -/
theorem final8 : (dats m 0 c).arrAt 8 cfg0.N = fun y => backR (m (c, Proc.tc.devRef main_arg0)) (m (c, Proc.tc.devRef main_arg1)) (m (c, Proc.tc.devRef main_arg2)) (m (c, Proc.tc.devRef main_arg3)) (m (c, Proc.tc.devRef main_arg4)) (y 0) (y 1) := by
  refine (dats m 0 c).arrAt_eq_of_covers 8 _ (by decide +kernel) fun t hf y => ?_
  blk_simp
  rw [after0_8]
  idx_vars y
  have e0 : (((View.whole main_v1_3).slice (win0_8.rect t)).emb (ix2 y0 y1) 0 : Fin 2048) = y0 := by
    apply Fin.ext
    blk_simp [idx t]
  have e1 : (((View.whole main_v1_3).slice (win0_8.rect t)).emb (ix2 y0 y1) 1 : Fin 2560) = y1 := by
    apply Fin.ext
    blk_simp [idx t]
  simp only [e0, e1]
  refine (out8_at _ _ _ _ _ y0 y1).trans ?_
  simp only [H_in]
  rfl

/-- The bytes after the reference has run. -/
theorem final7 : (dats m 0 c).arrAt 7 cfg0.N = fun y => bytesR (m (c, Proc.tc.devRef main_arg0)) (m (c, Proc.tc.devRef main_arg1)) (m (c, Proc.tc.devRef main_arg2)) (m (c, Proc.tc.devRef main_arg3)) (m (c, Proc.tc.devRef main_arg4)) (y 0) (y 1) (y 2) := by
  refine (dats m 0 c).arrAt_eq_of_covers 7 _ (by decide +kernel) fun t hf y => ?_
  blk_simp
  rw [after0_7]
  idx_vars y
  have e0 : (((View.whole main_v1_2).slice (win0_7.rect t)).emb (ix3 y0 y1 y2) 0 : Fin 2) = y0 := by
    apply Fin.ext
    blk_simp [idx t]
  have e1 : (((View.whole main_v1_2).slice (win0_7.rect t)).emb (ix3 y0 y1 y2) 1 : Fin 80) = y1 := by
    apply Fin.ext
    blk_simp [idx t]
  have e2 : (((View.whole main_v1_2).slice (win0_7.rect t)).emb (ix3 y0 y1 y2) 2 : Fin 1024) = y2 := by
    apply Fin.ext
    blk_simp [idx t]
  simp only [e0, e1, e2]
  refine (out7_at _ _ _ _ _ y0 y1 y2).trans ?_
  simp only [H_in]
  rfl

end Cert.OprojRefIdeal.Hand

end
-- ==== Proof.OprojClaim.lean ====
/- The output projection agrees with its reference. -/
module

public import proofs.«01_k».proof.Defs
public import proofs.«01_k».proof.Proof.OprojFinal
public import proofs.«01_k».proof.Proof.OprojRef
public import proofs.«01_k».proof.Proof.Quant
public import proofs.«01_k».proof.Proof.Gen.OprojRefIdeal.Value
public import proofs.«01_k».proof.Proof.Gen.Pre_oproj_scales_normal

@[expose] public section

set_option maxRecDepth 16384

noncomputable section

open Idealize.ShloMosaic Idealize.ShloMosaic.TcCoe Idealize.SL.Sem

namespace Cert.OprojIdeal.Hand

open Cert.OprojIdeal Cert.OprojIdeal.Gen Cert.Hand
open Cert.OprojRefIdeal.Hand (hidR norR codesR backR bytesR)

section
variable {a0 : Vec Ideal S2048x4096 .bf16} {a1 : Vec Ideal S2048x2560 .bf16} {a2 : Vec Ideal S4096x2560 .fp8e4m3} {a3 : Vec Ideal S128x2560 .i8} {a4 : Vec Ideal S2560 .f32}
  (h : Cert.Pre_oproj_scales_normal.fn (F := Ideal) a0 a1 a2 a3 a4 = fun _ => 1#1)
include h

/-- The precondition at an index: the exponent is that of a normal number. -/
theorem pre_at (k : Fin 128) (n : Fin 2560) : 1 ≤ (a3 (ix2 k n) : BitVec 8).toNat ∧ (a3 (ix2 k n) : BitVec 8).toNat ≤ 254 := by
  have e := congrFun h (ix2 k n)
  pointwise [Cert.Pre_oproj_scales_normal.fn] at e
  exact normal_bits _ e

/-- Under the precondition the two residual streams agree. -/
theorem hid_eq (p : Fin 2048) : hid a0 a1 a2 a3 p = hidR a0 a1 a2 a3 p := by
  funext n
  unfold hid hidR
  refine congrArg (fun s : EReal => a1 (ix2 p n) + s) (Finset.sum_congr rfl fun k _ => ?_)
  obtain ⟨h1, h2⟩ := pre_at h ⟨k.val / 32, by omega⟩ n
  rw [wts_at, scale_word _ h1 h2, exp2_word]

/-- Under the precondition the two groups agree. -/
theorem ngrp_eq (p : Fin 2048) (g : Fin 80) : ngrp a0 a1 a2 a3 a4 p g = norR a0 a1 a2 a3 a4 p g := by
  funext i
  unfold ngrp nor norR
  rw [hid_eq h]

/-- Under the precondition the two norms agree. -/
theorem nor_eq (p : Fin 2048) (n : Fin 2560) :
    nor a0 a1 a2 a3 a4 p n = norR a0 a1 a2 a3 a4 p (⟨n.val / 32, by omega⟩ : Fin 80) (⟨n.val % 32, by omega⟩ : Fin 32) := by
  refine Eq.trans ?_ (congrFun (ngrp_eq h p (⟨n.val / 32, by omega⟩ : Fin 80)) (⟨n.val % 32, by omega⟩ : Fin 32))
  unfold ngrp
  exact congrArg (nor a0 a1 a2 a3 a4 p) (Fin.ext (by dsimp only; omega))

/-- The two codes agree. -/
theorem codes_eq (p : Fin 2048) (n : Fin 2560) : codes a0 a1 a2 a3 a4 p n = codesR a0 a1 a2 a3 a4 p n := by
  unfold codes codesR
  rw [ngrp_eq h, nor_eq h]

/-- What the two codes stand for agrees. -/
theorem back_eq (p : Fin 2048) (n : Fin 2560) : back a0 a1 a2 a3 a4 p n = backR a0 a1 a2 a3 a4 p n := by
  unfold back backR
  rw [ngrp_eq h, nor_eq h]

/-- The exponent bytes agree. -/
theorem bytes_eq (b : Fin 2) (g : Fin 80) (r : Fin 1024) : bytes a0 a1 a2 a3 a4 b g r = bytesR a0 a1 a2 a3 a4 b g r := by
  unfold bytes bytesR
  rw [ngrp_eq h]

end

/-- From memories that agree on the arguments, under the precondition, the kernel and its reference leave the same four arrays. -/
theorem algebraic : Cert.algebraic_OprojIdeal_OprojRefIdeal_pre_oproj_scales_normal (hOprojIdeal := Cert.OprojIdeal.Gen.facts)
    (hOprojRefIdeal := Cert.OprojRefIdeal.Gen.facts) (hPre_oproj_scales_normal := Cert.Pre_oproj_scales_normal.Gen.facts) := by
  intro m g m' g' hpre hargs
  refine ⟨fun c => (dats m 0 c).arrAt 5 cfg0.N, fun c => (dats m 0 c).arrAt 6 cfg0.N, fun c => (dats m 0 c).arrAt 7 cfg0.N, fun c => (dats m 0 c).arrAt 8 cfg0.N,
    Cert.OprojIdeal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.OprojRefIdeal.Value.run_blocks m' g')
  all_goals
    obtain ⟨e0, e1, e2, e3, e4⟩ := hargs c
    have hp : Cert.Pre_oproj_scales_normal.fn (F := Ideal) (A0 m c) (A1 m c) (A2 m c) (A3 m c) (A4 m c) = fun _ => 1#1 := hpre c
  · refine (Cert.OprojRefIdeal.Hand.final5 m' c).trans (Eq.trans ?_ (final5 m c).symm)
    rw [e0, e1, e2, e3]
    funext y
    idx_vars y
    exact (congrFun (hid_eq hp y0) y1).symm
  · refine (Cert.OprojRefIdeal.Hand.final6 m' c).trans (Eq.trans ?_ (final6 m c).symm)
    rw [e0, e1, e2, e3, e4]
    funext y
    idx_vars y
    exact (codes_eq hp y0 y1).symm
  · refine (Cert.OprojRefIdeal.Hand.final7 m' c).trans (Eq.trans ?_ (final7 m c).symm)
    rw [e0, e1, e2, e3, e4]
    funext y
    idx_vars y
    exact (bytes_eq hp y0 y1 y2).symm
  · refine (Cert.OprojRefIdeal.Hand.final8 m' c).trans (Eq.trans ?_ (final8 m c).symm)
    rw [e0, e1, e2, e3, e4]
    funext y
    idx_vars y
    exact (back_eq hp y0 y1).symm

end Cert.OprojIdeal.Hand

end
-- ==== Proof.XqBlock.lean ====
/- What one grid point of the first norm and its quantiser writes. -/
module

public import proofs.«01_k».proof.Proof.RowQuant
public import proofs.«01_k».proof.Proof.Gen.XqIdeal.Frame
public import Idealize.ShloMosaic.Lib.Pipeline.Value
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.XqIdeal.Hand

open Cert.XqIdeal Cert.XqIdeal.Gen Cert.Hand Cert.GuIdeal.Hand

/-- Both offsets of a whole block are zero. -/
theorem zero2 : (![0, 0] : Fin 2 → Nat) = fun _ => 0 := by decide

/-- The three offsets of a whole block are zero. -/
theorem zero3 : (![0, 0, 0] : Fin 3 → Nat) = fun _ => 0 := by decide

variable (xb : Vec Ideal S256x2560 .bf16) (g : Vec Ideal S1x2560 .f32)

/-- The norm of a block of 256 rows. -/
def nrm : FVec Ideal S256x2560 .f32 := k0_pay2 (F := Ideal) xb g

/-- A value of the norm. -/
theorem nrm_at (r : Fin 256) (n : Fin 2560) : nrm xb g (ix2 r n) = normV (fun k => xb (ix2 r k)) (g (ix2 (0 : Fin 1) n)) n := by
  unfold nrm normV
  pointwise [k0_pay2]

/-- The values a point's payloads name are those of the norm. -/
theorem pay127_eq : k0_pay127 (F := Ideal) xb g = nrm xb g := by
  unfold k0_pay127 nrm
  rw [View.ld_unit_zero zero2, View.ld_unit_zero zero2]

/-- The first 128 columns of the norm. -/
theorem pay128_eq : k0_pay128 (F := Ideal) xb g = chunk (nrm xb g) 0 := by
  unfold k0_pay128 nrm
  rw [View.ld_unit_zero zero2, View.ld_unit_zero zero2]
  unfold k0_pay3
  rfl

/-- The exponents of the first 128 columns, from those columns. -/
theorem pay4_eq : k0_pay4 (F := Ideal) xb g = chunkExp (k0_pay3 (F := Ideal) xb g) := by
  unfold k0_pay4
  generalize k0_pay3 (F := Ideal) xb g = z
  rfl

/-- The exponents of the first 128 columns of the norm. -/
theorem pay129_eq : k0_pay129 (F := Ideal) xb g = chunkExp (chunk (nrm xb g) 0) := by
  rw [← pay128_eq]
  unfold k0_pay129 k0_pay128
  rw [View.ld_unit_zero zero2, View.ld_unit_zero zero2, pay4_eq]

/-- The codes a point writes. -/
theorem codes_out (r : Fin 256) (n : Fin 2560) :
    out0_2 (F := Ideal) xb g (ix2 r n) = (codeK (normGrp (nrm xb g) r ⟨n.val / 32, by omega⟩) (nrm xb g (ix2 r n)) : EReal) := by
  unfold out0_2 k0_pay170 k0_pay169 k0_pay168 k0_pay167 k0_pay166 k0_pay165 k0_pay164 k0_pay163 k0_pay162 k0_pay161 k0_pay160 k0_pay159 k0_pay158 k0_pay157 k0_pay156 k0_pay155 k0_pay154 k0_pay153 k0_pay152 k0_pay151 k0_pay150 k0_pay149 k0_pay148 k0_pay147 k0_pay146 k0_pay145 k0_pay144 k0_pay143 k0_pay142 k0_pay141 k0_pay140 k0_pay139 k0_pay138 k0_pay137 k0_pay136 k0_pay135 k0_pay134 k0_pay133 k0_pay132 k0_pay131 k0_pay130
  rw [View.canon_unit_zero zero2, pay127_eq, pay128_eq, pay129_eq]
  generalize nrm xb g = z
  exact (congrFun (show _ = normCodes z from rfl) (ix2 r n)).trans (normCodes_at z r n)

/-- What the codes a point writes stand for. -/
theorem back_out (r : Fin 256) (n : Fin 2560) :
    out0_4 (F := Ideal) xb g (ix2 r n) = (backK (normGrp (nrm xb g) r ⟨n.val / 32, by omega⟩) (nrm xb g (ix2 r n)) : EReal) := by
  unfold out0_4 k0_pay170 k0_pay169 k0_pay168 k0_pay167 k0_pay166 k0_pay165 k0_pay164 k0_pay163 k0_pay162 k0_pay161 k0_pay160 k0_pay159 k0_pay158 k0_pay157 k0_pay156 k0_pay155 k0_pay154 k0_pay153 k0_pay152 k0_pay151 k0_pay150 k0_pay149 k0_pay148 k0_pay147 k0_pay146 k0_pay145 k0_pay144 k0_pay143 k0_pay142 k0_pay141 k0_pay140 k0_pay139 k0_pay138 k0_pay137 k0_pay136 k0_pay135 k0_pay134 k0_pay133 k0_pay132 k0_pay131 k0_pay130
  rw [View.canon_unit_zero zero2, pay127_eq, pay128_eq, pay129_eq]
  generalize nrm xb g = z
  exact (congrFun (show _ = normBack z from rfl) (ix2 r n)).trans (normBack_at z r n)

/-- Bytes from exponents. -/
theorem byte_of (e : IVec S80x256 32) (a : Fin 1) (j : Fin 80) (r : Fin 256) : k0_pay1 (trunci 8 e natLt_8_32) (ix3 a j r) = BitVec.setWidth 8 (e (ix2 j r)) := by
  pointwise [k0_pay1]

/-- The exponent bytes a point writes. -/
theorem bytes_out (a : Fin 1) (j : Fin 80) (r : Fin 256) :
    (out0_3 (F := Ideal) xb g (ix3 a j r) : BitVec 8) = BitVec.setWidth 8 (expK (normGrp (nrm xb g) r j)) := by
  unfold out0_3 k0_pay170 k0_pay168 k0_pay162 k0_pay161 k0_pay160 k0_pay159 k0_pay157 k0_pay155 k0_pay149 k0_pay148 k0_pay147 k0_pay146 k0_pay144 k0_pay142 k0_pay136 k0_pay135 k0_pay134 k0_pay133 k0_pay131
  rw [View.canon_unit_zero zero3, pay127_eq, pay129_eq]
  generalize nrm xb g = z
  refine (congrFun (show _ = k0_pay1 (trunci 8 (normExps z) natLt_8_32) from rfl) (ix3 a j r)).trans ?_
  rw [byte_of, normExps_at]

end Cert.XqIdeal.Hand

end
-- ==== Proof.XqFinal.lean ====
/- The three arrays the first norm and its quantiser leave, in terms of its arguments. -/
module

public import proofs.«01_k».proof.Proof.XqBlock

@[expose] public section

set_option maxRecDepth 16384
set_option maxHeartbeats 4000000

noncomputable section

open Idealize.ShloMosaic Idealize.ShloMosaic.TcCoe Idealize.SL.Sem

namespace Cert.XqIdeal.Hand

open Cert.XqIdeal Cert.XqIdeal.Gen Cert.Hand

/-- The block each window holds at each grid point. -/
theorem idx : ∀ t : Fin cfg0.N, win0_0.index t = ![t.val, 0] ∧ win0_1.index t = ![0, 0] ∧ win0_2.index t = ![t.val, 0]
    ∧ win0_3.index t = ![t.val / 4, 0, t.val % 4] ∧ win0_4.index t = ![t.val, 0] :=
  (by decide +kernel : ∀ t : Fin grid0.N, _)

/-- The norm of row `p`. -/
def nor (a0 : Vec Ideal S2048x2560 .bf16) (a1 : Vec Ideal S2560 .f32) (p : Fin 2048) (n : Fin 2560) : EReal := normV (fun k => a0 (ix2 p k)) (a1 (ix1 n)) n

/-- The group of 32 values of the norm of row `p` with number `g`. -/
def ngrp (a0 : Vec Ideal S2048x2560 .bf16) (a1 : Vec Ideal S2560 .f32) (p : Fin 2048) (g : Fin 80) (i : Fin 32) : EReal := nor a0 a1 p (⟨g.val * 32 + i.val, by omega⟩ : Fin 2560)

/-- The code array. -/
def codes (a0 : Vec Ideal S2048x2560 .bf16) (a1 : Vec Ideal S2560 .f32) (p : Fin 2048) (n : Fin 2560) : EReal := codeK (ngrp a0 a1 p (⟨n.val / 32, by omega⟩ : Fin 80)) (nor a0 a1 p n)

/-- The array of what the codes stand for. -/
def back (a0 : Vec Ideal S2048x2560 .bf16) (a1 : Vec Ideal S2560 .f32) (p : Fin 2048) (n : Fin 2560) : EReal := backK (ngrp a0 a1 p (⟨n.val / 32, by omega⟩ : Fin 80)) (nor a0 a1 p n)

/-- The array of exponent bytes: for each half of the rows, one line per group. -/
def bytes (a0 : Vec Ideal S2048x2560 .bf16) (a1 : Vec Ideal S2560 .f32) (b : Fin 2) (g : Fin 80) (r : Fin 1024) : BitVec 8 :=
  BitVec.setWidth 8 (expK (ngrp a0 a1 (⟨b.val * 1024 + r.val, by omega⟩ : Fin 2048) g))

variable (m : (ℓ : Loc nD τ sig) → Buf (Elt Ideal) ℓ) (c : Dev nD)

/-- The layer's input. -/
abbrev A0 : Vec Ideal S2048x2560 .bf16 := m (c, Proc.tc.devRef main_arg0)
/-- The gain of the norm. -/
abbrev A1 : Vec Ideal S2560 .f32 := m (c, Proc.tc.devRef main_arg1)

/-- A point's inputs. -/
def xblk (t : Fin cfg0.N) : Vec Ideal S256x2560 .bf16 := iblk m c 0 t
/-- A point's gain. -/
def gblk (t : Fin cfg0.N) : Vec Ideal S1x2560 .f32 := iblk m c 1 t

/-- The gain as the kernel reads it: the host lays it out as one row. -/
theorem gain_row : V m c main_v0 = shapeCast S1x2560 (m (c, Proc.tc.devRef main_arg1)) shapeCasts_S2560_S1x2560 := by
  dsimp only [V, hostOps0, List.flatten_cons, List.flatten_nil, List.append_nil, List.cons_append, List.nil_append]
  rw [StableHlo.after_cons, StableHlo.after_nil]
  rw [StableHlo.reshape_result']
  rfl

/-- A point's inputs, in the whole array. -/
theorem xblk_at (t : Fin cfg0.N) (r : Fin 256) (n : Fin 2560) (p : Fin 2048) (hp : p.val = 256 * t.val + r.val) :
    xblk m c t (ix2 r n) = A0 m c (ix2 p n) := by
  rw [show A0 m c = V m c main_arg0 from (V_main_arg0 m c).symm]
  unfold xblk
  blk_point [iblk, idx t]

/-- Every point reads the whole gain. -/
theorem gblk_at (t : Fin cfg0.N) (n : Fin 2560) : gblk m c t (ix2 (0 : Fin 1) n) = A1 m c (ix1 n) := by
  have e : gblk m c t (ix2 (0 : Fin 1) n) = V m c main_v0 (ix2 (0 : Fin 1) n) := by
    unfold gblk
    blk_point [iblk, idx t]
  rw [e, gain_row]
  pointwise

/-- A point's norm, in the whole arrays. -/
theorem nrm_in (t : Fin cfg0.N) (r : Fin 256) (n : Fin 2560) (p : Fin 2048) (hp : p.val = 256 * t.val + r.val) :
    nrm (xblk m c t) (gblk m c t) (ix2 r n) = nor (A0 m c) (A1 m c) p n := by
  unfold nor
  rw [nrm_at, gblk_at]
  exact congrArg (fun h : Fin 2560 → EReal => normV h (A1 m c (ix1 n)) n) (funext fun k => xblk_at m c t r k p hp)

/-- A point's group, in the whole arrays. -/
theorem ngrp_in (t : Fin cfg0.N) (r : Fin 256) (g : Fin 80) (p : Fin 2048) (hp : p.val = 256 * t.val + r.val) :
    normGrp (nrm (xblk m c t) (gblk m c t)) r g = ngrp (A0 m c) (A1 m c) p g := by
  funext i
  exact nrm_in m c t r _ p hp

/-- The code array after the run. -/
theorem final2 : (dats m 0 c).arrAt 2 cfg0.N = fun y => codes (A0 m c) (A1 m c) (y 0) (y 1) := by
  refine (dats m 0 c).arrAt_eq_of_covers 2 _ (by decide +kernel) fun t hf y => ?_
  blk_simp
  rw [after0_2]
  idx_vars y
  have hN : t.val < 8 := lt_of_lt_of_eq t.isLt N_0
  have hy : 256 * t.val + y0.val < 2048 := by omega
  have e0 : (((View.whole main_v1_0).slice (win0_2.rect t)).emb (ix2 y0 y1) 0 : Fin 2048) = (⟨256 * t.val + y0.val, hy⟩ : Fin 2048) := by
    apply Fin.ext
    blk_simp [idx t]
    exact congrArg (· + y0.val) (Nat.mul_comm _ _)
  have e1 : (((View.whole main_v1_0).slice (win0_2.rect t)).emb (ix2 y0 y1) 1 : Fin 2560) = y1 := by
    apply Fin.ext
    blk_simp [idx t]
  simp only [e0, e1]
  refine (codes_out (xblk m c t) (gblk m c t) y0 y1).trans ?_
  rw [ngrp_in m c t y0 _ ⟨256 * t.val + y0.val, hy⟩ rfl, nrm_in m c t y0 _ ⟨256 * t.val + y0.val, hy⟩ rfl]
  rfl

/-- The array of what the codes stand for, after the run. -/
theorem final4 : (dats m 0 c).arrAt 4 cfg0.N = fun y => back (A0 m c) (A1 m c) (y 0) (y 1) := by
  refine (dats m 0 c).arrAt_eq_of_covers 4 _ (by decide +kernel) fun t hf y => ?_
  blk_simp
  rw [after0_4]
  idx_vars y
  have hN : t.val < 8 := lt_of_lt_of_eq t.isLt N_0
  have hy : 256 * t.val + y0.val < 2048 := by omega
  have e0 : (((View.whole main_v1_2).slice (win0_4.rect t)).emb (ix2 y0 y1) 0 : Fin 2048) = (⟨256 * t.val + y0.val, hy⟩ : Fin 2048) := by
    apply Fin.ext
    blk_simp [idx t]
    exact congrArg (· + y0.val) (Nat.mul_comm _ _)
  have e1 : (((View.whole main_v1_2).slice (win0_4.rect t)).emb (ix2 y0 y1) 1 : Fin 2560) = y1 := by
    apply Fin.ext
    blk_simp [idx t]
  simp only [e0, e1]
  refine (back_out (xblk m c t) (gblk m c t) y0 y1).trans ?_
  rw [ngrp_in m c t y0 _ ⟨256 * t.val + y0.val, hy⟩ rfl, nrm_in m c t y0 _ ⟨256 * t.val + y0.val, hy⟩ rfl]
  rfl

/-- The array of exponent bytes after the run. -/
theorem final3 : (dats m 0 c).arrAt 3 cfg0.N = fun y => bytes (A0 m c) (A1 m c) (y 0) (y 1) (y 2) := by
  refine (dats m 0 c).arrAt_eq_of_covers 3 _ (by decide +kernel) fun t hf y => ?_
  blk_simp
  rw [after0_3]
  idx_vars y
  have hN : t.val < 8 := lt_of_lt_of_eq t.isLt N_0
  have hb : t.val / 4 < 2 := by omega
  have hy : 256 * (t.val % 4) + y2.val < 1024 := by omega
  have e0 : (((View.whole main_v1_1).slice (win0_3.rect t)).emb (ix3 y0 y1 y2) 0 : Fin 2) = (⟨t.val / 4, hb⟩ : Fin 2) := by
    apply Fin.ext
    blk_simp [idx t]
  have e1 : (((View.whole main_v1_1).slice (win0_3.rect t)).emb (ix3 y0 y1 y2) 1 : Fin 80) = y1 := by
    apply Fin.ext
    blk_simp [idx t]
  have e2 : (((View.whole main_v1_1).slice (win0_3.rect t)).emb (ix3 y0 y1 y2) 2 : Fin 1024) = (⟨256 * (t.val % 4) + y2.val, hy⟩ : Fin 1024) := by
    apply Fin.ext
    blk_simp [idx t]
    exact congrArg (· + y2.val) (Nat.mul_comm _ _)
  simp only [e0, e1, e2]
  refine (bytes_out (xblk m c t) (gblk m c t) y0 y1 y2).trans ?_
  unfold bytes
  rw [ngrp_in m c t y2 y1 (⟨t.val / 4 * 1024 + (256 * (t.val % 4) + y2.val), by omega⟩ : Fin 2048) (by dsimp only; omega)]

/-- What the run leaves: each output array, and the arguments as they were. -/
theorem run_blocks (ρ : Dev nD → PrngReg) : θ_run defs (onTc (τ := τ) (main (F := Ideal))) ⟨m, fun _ => 0, ρ⟩ fun r =>
    ∀ c : Dev nD, r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_v1_2) = (dats m 0 c).arrAt 4 cfg0.N
      ∧ r.2.mem ((c : Thread nD τ).loc main_arg0) = m (c, Proc.tc.devRef main_arg0)
      ∧ r.2.mem ((c : Thread nD τ).loc main_arg1) = m (c, Proc.tc.devRef main_arg1) :=
  (θ_run defs _ _).mono (fun r h c =>
    ⟨(h c).1 2, (h c).1 3, (h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.XqIdeal.Hand

end
-- ==== Proof.XqRef.lean ====
/- The exponents, codes and bytes of the reference of the first norm and its quantiser. -/
module

public import proofs.«01_k».proof.Proof.OprojRef
public import proofs.«01_k».proof.Proof.Gen.XqRefIdeal.Value
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.XqRefIdeal.Hand

open Cert.XqRefIdeal Cert.XqRefIdeal.Gen Cert.Hand
open Cert.OprojRefIdeal.Hand (expsOf expsOf_at zero2)

/-- The scaled values: those of `h` over two to the exponents `e` of their groups, at least -448. -/
def lowOf (h : FVec Ideal S2048x80x32 .f32) (e : FVec Ideal S2048x80 .f32) : FVec Ideal S2048x80x32 .f32 :=
  maximumf (broadcast S2048x80x32 (Scalar.ofBits .f32 0xC3E00000#32))
    (mulf h (broadcastTo S2048x80x32 (shapeCast S2048x80x1 (exp2 (subf (broadcast S2048x80 (Scalar.ofBits .f32 0x00000000#32)) e)) shapeCasts_S2048x80_S2048x80x1) broadcasts_S2048x80x1_S2048x80x32))

/-- A scaled value at an index. -/
theorem lowOf_at (h : FVec Ideal S2048x80x32 .f32) (e : FVec Ideal S2048x80 .f32) (p : Fin 2048) (g : Fin 80) (i : Fin 32) :
    lowOf h e (ix3 p g i) = (max (Ideal.ofBits FTy.f32 3286237184#32) (h (ix3 p g i) * Ideal.exp2 (0 - e (ix2 p g))) : EReal) := by
  pointwise [lowOf]
  rfl

/-- A code at an index, from the scaled values. -/
theorem code_at (l : FVec Ideal S2048x80x32 .f32) (p : Fin 2048) (n : Fin 2560) : k0_pay3 (F := Ideal) l k0_pay10 (ix2 p n)
    = (min (Ideal.ofBits FTy.f32 1138753536#32) (l (ix3 p (⟨n.val / 32, by omega⟩ : Fin 80) (⟨n.val % 32, by omega⟩ : Fin 32))) : EReal) := by
  pointwise [k0_pay3, k0_pay1, k0_pay10]

/-- What a code stands for at an index, from the scaled values and the exponents. -/
theorem wide_at (e : FVec Ideal S2048x80 .f32) (l : FVec Ideal S2048x80x32 .f32) (p : Fin 2048) (n : Fin 2560) : k0_pay4 (F := Ideal) e l k0_pay10 (ix2 p n)
    = (min (Ideal.ofBits FTy.f32 1138753536#32) (l (ix3 p (⟨n.val / 32, by omega⟩ : Fin 80) (⟨n.val % 32, by omega⟩ : Fin 32)))
        * Ideal.exp2 (e (ix2 p (⟨n.val / 32, by omega⟩ : Fin 80))) : EReal) := by
  pointwise [k0_pay4, k0_pay1, k0_pay10]
  rfl

/-- The bytes at an index, from the exponents. -/
theorem byte_at (e : FVec Ideal S2048x80 .f32) (b : Fin 2) (g : Fin 80) (r : Fin 1024) :
    (View.canon (Val := Elt Ideal) (e := EltTy.i8) [⟨r0_3, k0_pay6 (F := Ideal) e⟩, ⟨r0_2, k0_pay5 (F := Ideal) e⟩] (ix3 b g r) : BitVec 8)
      = (BitVec.setWidth 8 (IntOp.addi (FloatOps.fptosi (F := Ideal) (φ := FTy.f32) 32 (e (ix2 (⟨b.val * 1024 + r.val, by omega⟩ : Fin 2048) g))) 127#32) : BitVec 8) := by
  unfold k0_pay6 k0_pay5 k0_pay2
  canon_tiles x h
  all_goals
    refine (show _ = (_ : BitVec 8) from ?_)
    pointwise
  all_goals
    have hb : b.val = _ := ‹((ix3 b g r) 0).val = _›
    have hg : g.val = _ := ‹((ix3 b g r) 1).val = _›
    have hr : r.val = _ := ‹((ix3 b g r) 2).val = _›
    blk_point

section
variable (x0 : Vec Ideal S2048x2560 .bf16) (x1 : Vec Ideal S1x2560 .f32)

/-- The reference's norm, in groups. -/
def H : FVec Ideal S2048x80x32 .f32 := k0_pay7 (F := Ideal) x0 x1

/-- The reference's norm at an index. -/
theorem H_at (p : Fin 2048) (g : Fin 80) (i : Fin 32) : H x0 x1 (ix3 p g i)
    = normV (fun k => x0 (ix2 p k)) (x1 (ix2 (0 : Fin 1) (⟨g.val * 32 + i.val, by omega⟩ : Fin 2560))) ⟨g.val * 32 + i.val, by omega⟩ := by
  unfold normV H k0_pay7
  pointwise

/-- The exponents are those of the norm. -/
theorem pay8_eq : k0_pay8 (F := Ideal) x0 x1 = expsOf (H x0 x1) := by
  unfold k0_pay8 H
  generalize k0_pay7 (F := Ideal) x0 x1 = h
  rfl

/-- The scaled values are those of the norm. -/
theorem pay9_eq : k0_pay9 (F := Ideal) x0 x1 = lowOf (H x0 x1) (expsOf (H x0 x1)) := by
  rw [← pay8_eq]
  unfold k0_pay9 H
  generalize k0_pay8 (F := Ideal) x0 x1 = e
  generalize k0_pay7 (F := Ideal) x0 x1 = h
  rfl

/-- The exponents the reference stores are those of its arguments. -/
theorem pay11_eq : k0_pay11 (F := Ideal) x0 x1 = expsOf (H x0 x1) := by
  unfold k0_pay11
  rw [View.ld_unit_zero zero2, View.ld_unit_zero zero2, pay8_eq]

/-- The scaled values the reference stores are those of its arguments. -/
theorem pay12_eq : k0_pay12 (F := Ideal) x0 x1 = lowOf (H x0 x1) (expsOf (H x0 x1)) := by
  unfold k0_pay12
  rw [View.ld_unit_zero zero2, View.ld_unit_zero zero2, pay9_eq]

/-- The codes the reference leaves. -/
theorem out2_at (p : Fin 2048) (n : Fin 2560) : out0_2 (F := Ideal) x0 x1 (ix2 p n)
    = codeK (fun i => H x0 x1 (ix3 p (⟨n.val / 32, by omega⟩ : Fin 80) i)) (H x0 x1 (ix3 p (⟨n.val / 32, by omega⟩ : Fin 80) (⟨n.val % 32, by omega⟩ : Fin 32))) := by
  unfold out0_2 k0_pay13
  rw [View.canon_unit_zero zero2, pay12_eq]
  refine (code_at _ p n).trans ?_
  rw [lowOf_at, expsOf_at]
  unfold codeK
  rw [scale_eq]

/-- What the codes that the reference leaves stand for. -/
theorem out4_at (p : Fin 2048) (n : Fin 2560) : out0_4 (F := Ideal) x0 x1 (ix2 p n)
    = backK (fun i => H x0 x1 (ix3 p (⟨n.val / 32, by omega⟩ : Fin 80) i)) (H x0 x1 (ix3 p (⟨n.val / 32, by omega⟩ : Fin 80) (⟨n.val % 32, by omega⟩ : Fin 32))) := by
  unfold out0_4 k0_pay13
  rw [View.canon_unit_zero zero2, pay12_eq, pay11_eq]
  refine (wide_at _ _ p n).trans ?_
  rw [lowOf_at, expsOf_at]
  unfold backK codeK
  rw [back_scale_eq, scale_eq]

/-- The bytes the reference leaves. -/
theorem out3_at (b : Fin 2) (g : Fin 80) (r : Fin 1024) : (out0_3 (F := Ideal) x0 x1 (ix3 b g r) : BitVec 8)
    = BitVec.setWidth 8 (expK fun i => H x0 x1 (ix3 (⟨b.val * 1024 + r.val, by omega⟩ : Fin 2048) g i)) := by
  unfold out0_3
  rw [pay11_eq]
  refine (byte_at _ b g r).trans ?_
  rw [expsOf_at, byte_scale_eq]

end

/-- The reference's norm of row `p`, value `i` of group `g`. -/
def norR (a0 : Vec Ideal S2048x2560 .bf16) (a1 : Vec Ideal S2560 .f32) (p : Fin 2048) (g : Fin 80) (i : Fin 32) : EReal :=
  normV (fun k => a0 (ix2 p k)) (a1 (ix1 (⟨g.val * 32 + i.val, by omega⟩ : Fin 2560))) ⟨g.val * 32 + i.val, by omega⟩

/-- The reference's codes. -/
def codesR (a0 : Vec Ideal S2048x2560 .bf16) (a1 : Vec Ideal S2560 .f32) (p : Fin 2048) (n : Fin 2560) : EReal :=
  codeK (norR a0 a1 p (⟨n.val / 32, by omega⟩ : Fin 80)) (norR a0 a1 p (⟨n.val / 32, by omega⟩ : Fin 80) (⟨n.val % 32, by omega⟩ : Fin 32))

/-- What the reference's codes stand for. -/
def backR (a0 : Vec Ideal S2048x2560 .bf16) (a1 : Vec Ideal S2560 .f32) (p : Fin 2048) (n : Fin 2560) : EReal :=
  backK (norR a0 a1 p (⟨n.val / 32, by omega⟩ : Fin 80)) (norR a0 a1 p (⟨n.val / 32, by omega⟩ : Fin 80) (⟨n.val % 32, by omega⟩ : Fin 32))

/-- The reference's bytes. -/
def bytesR (a0 : Vec Ideal S2048x2560 .bf16) (a1 : Vec Ideal S2560 .f32) (b : Fin 2) (g : Fin 80) (r : Fin 1024) : BitVec 8 :=
  BitVec.setWidth 8 (expK (norR a0 a1 (⟨b.val * 1024 + r.val, by omega⟩ : Fin 2048) g))

variable (m : (ℓ : Loc nD τ sig) → Buf (Elt Ideal) ℓ) (c : Dev nD)

/-- Every window is its whole array. -/
theorem idx : ∀ t : Fin cfg0.N, win0_0.index t = ![0, 0] ∧ win0_1.index t = ![0, 0] ∧ win0_2.index t = ![0, 0]
    ∧ win0_3.index t = ![0, 0, 0] ∧ win0_4.index t = ![0, 0] :=
  (by decide +kernel : ∀ t : Fin grid0.N, _)

/-- The gain as the reference reads it: the host lays it out as one row. -/
theorem gain_row : V m c main_v0 = shapeCast S1x2560 (m (c, Proc.tc.devRef main_arg1)) shapeCasts_S2560_S1x2560 := by
  dsimp only [V, hostOps0, List.flatten_cons, List.flatten_nil, List.append_nil, List.cons_append, List.nil_append]
  rw [StableHlo.after_cons, StableHlo.after_nil]
  rw [StableHlo.reshape_result']
  rfl

/-- Window 0 is argument 0. -/
theorem in0 (t : Fin cfg0.N) : (iblk m c 0 t : Vec Ideal S2048x2560 .bf16) = m (c, Proc.tc.devRef main_arg0) := by
  refine Eq.trans ?_ (V_main_arg0 m c)
  funext y
  idx_vars y
  blk_point [iblk, idx t]

/-- The reference's gain at an index. -/
theorem in1 (t : Fin cfg0.N) (n : Fin 2560) : (iblk m c 1 t : Vec Ideal S1x2560 .f32) (ix2 (0 : Fin 1) n) = (m (c, Proc.tc.devRef main_arg1) : Vec Ideal S2560 .f32) (ix1 n) := by
  have e : (iblk m c 1 t : Vec Ideal S1x2560 .f32) (ix2 (0 : Fin 1) n) = V m c main_v0 (ix2 (0 : Fin 1) n) := by
    blk_point [iblk, idx t]
  rw [e, gain_row]
  pointwise

/-- The reference's norm, in the whole arrays. -/
theorem H_in (t : Fin cfg0.N) (p : Fin 2048) (g : Fin 80) (i : Fin 32) :
    H (iblk m c 0 t) (iblk m c 1 t) (ix3 p g i) = norR (m (c, Proc.tc.devRef main_arg0)) (m (c, Proc.tc.devRef main_arg1)) p g i := by
  unfold norR
  rw [H_at, in1, in0]

/-- The codes after the reference has run. -/
theorem final2 : (dats m 0 c).arrAt 2 cfg0.N = fun y => codesR (m (c, Proc.tc.devRef main_arg0)) (m (c, Proc.tc.devRef main_arg1)) (y 0) (y 1) := by
  refine (dats m 0 c).arrAt_eq_of_covers 2 _ (by decide +kernel) fun t hf y => ?_
  blk_simp
  rw [after0_2]
  idx_vars y
  have e0 : (((View.whole main_v1_0).slice (win0_2.rect t)).emb (ix2 y0 y1) 0 : Fin 2048) = y0 := by
    apply Fin.ext
    blk_simp [idx t]
  have e1 : (((View.whole main_v1_0).slice (win0_2.rect t)).emb (ix2 y0 y1) 1 : Fin 2560) = y1 := by
    apply Fin.ext
    blk_simp [idx t]
  simp only [e0, e1]
  refine (out2_at _ _ y0 y1).trans ?_
  simp only [H_in]
  rfl

/-- What the codes stand for after the reference has run. -/
theorem final4 : (dats m 0 c).arrAt 4 cfg0.N = fun y => backR (m (c, Proc.tc.devRef main_arg0)) (m (c, Proc.tc.devRef main_arg1)) (y 0) (y 1) := by
  refine (dats m 0 c).arrAt_eq_of_covers 4 _ (by decide +kernel) fun t hf y => ?_
  blk_simp
  rw [after0_4]
  idx_vars y
  have e0 : (((View.whole main_v1_2).slice (win0_4.rect t)).emb (ix2 y0 y1) 0 : Fin 2048) = y0 := by
    apply Fin.ext
    blk_simp [idx t]
  have e1 : (((View.whole main_v1_2).slice (win0_4.rect t)).emb (ix2 y0 y1) 1 : Fin 2560) = y1 := by
    apply Fin.ext
    blk_simp [idx t]
  simp only [e0, e1]
  refine (out4_at _ _ y0 y1).trans ?_
  simp only [H_in]
  rfl

/-- The bytes after the reference has run. -/
theorem final3 : (dats m 0 c).arrAt 3 cfg0.N = fun y => bytesR (m (c, Proc.tc.devRef main_arg0)) (m (c, Proc.tc.devRef main_arg1)) (y 0) (y 1) (y 2) := by
  refine (dats m 0 c).arrAt_eq_of_covers 3 _ (by decide +kernel) fun t hf y => ?_
  blk_simp
  rw [after0_3]
  idx_vars y
  have e0 : (((View.whole main_v1_1).slice (win0_3.rect t)).emb (ix3 y0 y1 y2) 0 : Fin 2) = y0 := by
    apply Fin.ext
    blk_simp [idx t]
  have e1 : (((View.whole main_v1_1).slice (win0_3.rect t)).emb (ix3 y0 y1 y2) 1 : Fin 80) = y1 := by
    apply Fin.ext
    blk_simp [idx t]
  have e2 : (((View.whole main_v1_1).slice (win0_3.rect t)).emb (ix3 y0 y1 y2) 2 : Fin 1024) = y2 := by
    apply Fin.ext
    blk_simp [idx t]
  simp only [e0, e1, e2]
  refine (out3_at _ _ y0 y1 y2).trans ?_
  simp only [H_in]
  rfl

end Cert.XqRefIdeal.Hand

end
-- ==== Proof.XqClaim.lean ====
/- The first norm and its quantiser agree with their reference. -/
module

public import proofs.«01_k».proof.Defs
public import proofs.«01_k».proof.Proof.XqFinal
public import proofs.«01_k».proof.Proof.XqRef

@[expose] public section

set_option maxRecDepth 16384
set_option maxHeartbeats 4000000

noncomputable section

open Idealize.ShloMosaic Idealize.ShloMosaic.TcCoe Idealize.SL.Sem

namespace Cert.XqIdeal.Hand

open Cert.XqIdeal Cert.XqIdeal.Gen Cert.Hand
open Cert.XqRefIdeal.Hand (norR codesR backR bytesR)

section
variable (a0 : Vec Ideal S2048x2560 .bf16) (a1 : Vec Ideal S2560 .f32)

/-- The two groups agree. -/
theorem ngrp_eq (p : Fin 2048) (g : Fin 80) : ngrp a0 a1 p g = norR a0 a1 p g := rfl

/-- The two norms agree. -/
theorem nor_eq (p : Fin 2048) (n : Fin 2560) :
    nor a0 a1 p n = norR a0 a1 p (⟨n.val / 32, by omega⟩ : Fin 80) (⟨n.val % 32, by omega⟩ : Fin 32) :=
  (congrArg (nor a0 a1 p) (Fin.ext (by dsimp only; omega)) : _ = nor a0 a1 p (⟨n.val / 32 * 32 + n.val % 32, by omega⟩ : Fin 2560))

/-- The two codes agree. -/
theorem codes_eq (p : Fin 2048) (n : Fin 2560) : codes a0 a1 p n = codesR a0 a1 p n := by
  unfold codes codesR
  rw [ngrp_eq, nor_eq]

/-- What the two codes stand for agrees. -/
theorem back_eq (p : Fin 2048) (n : Fin 2560) : back a0 a1 p n = backR a0 a1 p n := by
  unfold back backR
  rw [ngrp_eq, nor_eq]

/-- The exponent bytes agree. -/
theorem bytes_eq (b : Fin 2) (g : Fin 80) (r : Fin 1024) : bytes a0 a1 b g r = bytesR a0 a1 b g r := by
  unfold bytes bytesR
  rw [ngrp_eq]

end

/-- From memories that agree on the arguments the kernel and its reference leave the same three arrays. -/
theorem algebraic : Cert.algebraic_XqIdeal_XqRefIdeal (hXqIdeal := Cert.XqIdeal.Gen.facts) (hXqRefIdeal := Cert.XqRefIdeal.Gen.facts) := by
  intro m g m' g' _ hargs
  refine ⟨fun c => (dats m 0 c).arrAt 2 cfg0.N, fun c => (dats m 0 c).arrAt 3 cfg0.N, fun c => (dats m 0 c).arrAt 4 cfg0.N, run_blocks m g, ?_⟩
  refine (θ_run _ _ _).mono (fun r h c => ⟨(h c).1.trans ?_, (h c).2.1.trans ?_, (h c).2.2.1.trans ?_, (h c).2.2.2⟩) (Cert.XqRefIdeal.Value.run_blocks m' g')
  all_goals obtain ⟨e0, e1⟩ := hargs c
  · refine (Cert.XqRefIdeal.Hand.final2 m' c).trans (Eq.trans ?_ (final2 m c).symm)
    rw [e0, e1]
    funext y
    idx_vars y
    exact (codes_eq _ _ y0 y1).symm
  · refine (Cert.XqRefIdeal.Hand.final3 m' c).trans (Eq.trans ?_ (final3 m c).symm)
    rw [e0, e1]
    funext y
    idx_vars y
    exact (bytes_eq _ _ y0 y1 y2).symm
  · refine (Cert.XqRefIdeal.Hand.final4 m' c).trans (Eq.trans ?_ (final4 m c).symm)
    rw [e0, e1]
    funext y
    idx_vars y
    exact (back_eq _ _ y0 y1).symm

end Cert.XqIdeal.Hand

end
-- ==== Proof.lean ====
module

public import proofs.«01_k».proof.Defs
public import proofs.«01_k».proof.Proof.Gen.Down.Frame
public import proofs.«01_k».proof.Proof.Gen.DownIdeal.Value
public import proofs.«01_k».proof.Proof.Gen.DownRefIdeal.Value
public import proofs.«01_k».proof.Proof.Gen.Pre_down_scales_normal
public import proofs.«01_k».proof.Proof.DownClaim
public import proofs.«01_k».proof.Proof.Gen.Gu.Frame
public import proofs.«01_k».proof.Proof.Gen.GuIdeal.Value
public import proofs.«01_k».proof.Proof.Gen.GuRefIdeal.Value
public import proofs.«01_k».proof.Proof.Gen.Pre_gu_scales_normal
public import proofs.«01_k».proof.Proof.GuClaim
public import proofs.«01_k».proof.Proof.Gen.Oproj.Frame
public import proofs.«01_k».proof.Proof.Gen.OprojIdeal.Value
public import proofs.«01_k».proof.Proof.Gen.OprojRefIdeal.Value
public import proofs.«01_k».proof.Proof.Gen.Pre_oproj_scales_normal
public import proofs.«01_k».proof.Proof.OprojClaim
public import proofs.«01_k».proof.Proof.Gen.Xq.Frame
public import proofs.«01_k».proof.Proof.Gen.XqIdeal.Frame
public import proofs.«01_k».proof.Proof.Gen.XqRefIdeal.Value
public import proofs.«01_k».proof.Proof.XqClaim
public import Idealize.ShloMosaic.Adequacy
public import Idealize.ShloMosaic.Init

@[expose] public section

noncomputable section

namespace Cert.Proof

open Idealize.ShloMosaic Idealize.SL.Sem

theorem claim : Cert.Claim := ⟨Cert.Down.Gen.facts, Cert.DownIdeal.Gen.facts, Cert.DownRefIdeal.Gen.facts,
  Cert.Gu.Gen.facts, Cert.GuIdeal.Gen.facts, Cert.GuRefIdeal.Gen.facts,
  Cert.Oproj.Gen.facts, Cert.OprojIdeal.Gen.facts, Cert.OprojRefIdeal.Gen.facts,
  Cert.Xq.Gen.facts, Cert.XqIdeal.Gen.facts, Cert.XqRefIdeal.Gen.facts,
  Cert.Pre_down_scales_normal.Gen.facts, Cert.Pre_gu_scales_normal.Gen.facts, Cert.Pre_oproj_scales_normal.Gen.facts,
  fun m ρ _ => Cert.Down.Gen.frame m ρ, fun m ρ _ => Cert.DownIdeal.Gen.frame m ρ,
  fun m ρ _ => Cert.DownIdeal.Gen.frame m ρ, fun m ρ _ => Cert.DownRefIdeal.Gen.frame m ρ,
  fun m ρ _ => Cert.DownRefIdeal.Gen.frame m ρ, fun m ρ _ => Cert.Gu.Gen.frame m ρ,
  fun m ρ _ => Cert.GuIdeal.Gen.frame m ρ, fun m ρ _ => Cert.GuIdeal.Gen.frame m ρ,
  fun m ρ _ => Cert.GuRefIdeal.Gen.frame m ρ, fun m ρ _ => Cert.GuRefIdeal.Gen.frame m ρ,
  fun m ρ _ => Cert.Oproj.Gen.frame m ρ, fun m ρ _ => Cert.OprojIdeal.Gen.frame m ρ,
  fun m ρ _ => Cert.OprojIdeal.Gen.frame m ρ, fun m ρ _ => Cert.OprojRefIdeal.Gen.frame m ρ,
  fun m ρ _ => Cert.OprojRefIdeal.Gen.frame m ρ, fun m ρ _ => Cert.Xq.Gen.frame m ρ,
  fun m ρ _ => Cert.XqIdeal.Gen.frame m ρ, fun m ρ _ => Cert.XqRefIdeal.Gen.frame m ρ,
  trivial, Cert.DownIdeal.Hand.algebraic, trivial, Cert.GuIdeal.Hand.algebraic,
  trivial, Cert.OprojIdeal.Hand.algebraic, trivial, Cert.XqIdeal.Hand.algebraic⟩

end Cert.Proof

end
